-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v33)) (v4 : (c : Dev Cert.KernelIdeal.nD) → Buf (Elt Ideal) ((c.tc : Thread Cert.KernelIdeal.nD Cert.KernelIdeal.τ).loc Cert.KernelIdeal.main_v35)) (v5 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_v37) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v319) = v0 c
          ∧ r.2.mem ((c.tc : Thread Cert.ReferenceIdeal.nD Cert.ReferenceIdeal.τ).loc Cert.ReferenceIdeal.main_v320) = v1 c
          ∧ r.2.mem ((c.tc : Thread Cert.ReferenceIdeal.nD Cert.ReferenceIdeal.τ).loc Cert.ReferenceIdeal.main_v321) = v2 c
          ∧ r.2.mem ((c.tc : Thread Cert.ReferenceIdeal.nD Cert.ReferenceIdeal.τ).loc Cert.ReferenceIdeal.main_v322) = v3 c
          ∧ r.2.mem ((c.tc : Thread Cert.ReferenceIdeal.nD Cert.ReferenceIdeal.τ).loc Cert.ReferenceIdeal.main_v323) = v4 c
          ∧ r.2.mem ((c.tc : Thread Cert.ReferenceIdeal.nD Cert.ReferenceIdeal.τ).loc Cert.ReferenceIdeal.main_v324) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x512 : Shape := ⟨3, ![3, 512, 512]⟩
abbrev S2x512x512 : Shape := ⟨3, ![2, 512, 512]⟩
abbrev S512x512 : Shape := ⟨2, ![512, 512]⟩
abbrev S384x512 : Shape := ⟨2, ![384, 512]⟩
abbrev S6x512x512 : Shape := ⟨3, ![6, 512, 512]⟩
abbrev S4x512x512 : Shape := ⟨3, ![4, 512, 512]⟩
abbrev S1x512x512 : Shape := ⟨3, ![1, 512, 512]⟩
abbrev S384 : Shape := ⟨1, ![384]⟩
abbrev S_ : Shape := ⟨0, ![]⟩
abbrev S512 : Shape := ⟨1, ![512]⟩
abbrev S384x1 : Shape := ⟨2, ![384, 1]⟩
abbrev S1x512 : Shape := ⟨2, ![1, 512]⟩
abbrev S6x384x384 : Shape := ⟨3, ![6, 384, 384]⟩
abbrev S4x384x384 : Shape := ⟨3, ![4, 384, 384]⟩
abbrev S2x384x384 : Shape := ⟨3, ![2, 384, 384]⟩
abbrev S512x384 : Shape := ⟨2, ![512, 384]⟩
abbrev S384x384 : Shape := ⟨2, ![384, 384]⟩
abbrev S1x384x384 : Shape := ⟨3, ![1, 384, 384]⟩
abbrev S3x384x384 : Shape := ⟨3, ![3, 384, 384]⟩

abbrev nBuf : Space → Nat
  | .hbm => 54
  | .vmem => 8
  | .smem => 0
  | _ => 0

abbrev bufTy : (tb : Table) → Fin (tcTables nBuf tb) → BufTy
  | .hbm, ⟨0, _⟩ => ⟨S3x512x512, .f32⟩
  | .hbm, ⟨1, _⟩ => ⟨S3x512x512, .f32⟩
  | .hbm, ⟨2, _⟩ => ⟨S2x512x512, .f32⟩
  | .hbm, ⟨3, _⟩ => ⟨S2x512x512, .f32⟩
  | .hbm, ⟨4, _⟩ => ⟨S512x512, .i1⟩
  | .hbm, ⟨5, _⟩ => ⟨S512x512, .i1⟩
  | .hbm, ⟨6, _⟩ => ⟨S384x512, .f32⟩
  | .hbm, ⟨7, _⟩ => ⟨S6x512x512, .f32⟩
  | .hbm, ⟨8, _⟩ => ⟨S4x512x512, .f32⟩
  | .hbm, ⟨9, _⟩ => ⟨S1x512x512, .i1⟩
  | .hbm, ⟨10, _⟩ => ⟨S1x512x512, .i1⟩
  | .hbm, ⟨11, _⟩ => ⟨S2x512x512, .i1⟩
  | .hbm, ⟨12, _⟩ => ⟨S2x512x512, .f32⟩
  | .hbm, ⟨13, _⟩ => ⟨S384, .i32⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S512, .i32⟩
  | .hbm, ⟨18, _⟩ => ⟨S_, .i32⟩
  | .hbm, ⟨19, _⟩ => ⟨S384, .i32⟩
  | .hbm, ⟨20, _⟩ => ⟨S384, .i32⟩
  | .hbm, ⟨21, _⟩ => ⟨S_, .i32⟩
  | .hbm, ⟨22, _⟩ => ⟨S384, .i32⟩
  | .hbm, ⟨23, _⟩ => ⟨S384, .i32⟩
  | .hbm, ⟨24, _⟩ => ⟨S384x1, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S1x512, .i32⟩
  | .hbm, ⟨29, _⟩ => ⟨S384x512, .i32⟩
  | .hbm, ⟨30, _⟩ => ⟨S384x512, .i32⟩
  | .hbm, ⟨31, _⟩ => ⟨S384x512, .i32⟩
  | .hbm, ⟨32, _⟩ => ⟨S384x512, .i32⟩
  | .hbm, ⟨33, _⟩ => ⟨S_, .i32⟩
  | .hbm, ⟨34, _⟩ => ⟨S384x512, .i32⟩
  | .hbm, ⟨35, _⟩ => ⟨S384x512, .i32⟩
  | .hbm, ⟨36, _⟩ => ⟨S_, .i32⟩
  | .hbm, ⟨37, _⟩ => ⟨S384x512, .i32⟩
  | .hbm, ⟨38, _⟩ => ⟨S384x512, .i32⟩
  | .hbm, ⟨39, _⟩ => ⟨S384x512, .f32⟩
  | .hbm, ⟨40, _⟩ => ⟨S_, .f32⟩
  | .hbm, ⟨41, _⟩ => ⟨S384x512, .f32⟩
  | .hbm, ⟨42, _⟩ => ⟨S384x512, .f32⟩
  | .hbm, ⟨43, _⟩ => ⟨S6x384x384, .f32⟩
  | .hbm, ⟨44, _⟩ => ⟨S4x384x384, .f32⟩
  | .hbm, ⟨45, _⟩ => ⟨S2x384x384, .f32⟩
  | .hbm, ⟨46, _⟩ => ⟨S3x384x384, .f32⟩
  | .hbm, ⟨47, _⟩ => ⟨S3x384x384, .f32⟩
  | .hbm, ⟨48, _⟩ => ⟨S2x384x384, .f32⟩
  | .hbm, ⟨49, _⟩ => ⟨S2x384x384, .f32⟩
  | .hbm, ⟨50, _⟩ => ⟨S1x384x384, .f32⟩
  | .hbm, ⟨51, _⟩ => ⟨S384x384, .f32⟩
  | .hbm, ⟨52, _⟩ => ⟨S1x384x384, .f32⟩
  | .hbm, ⟨53, _⟩ => ⟨S384x384, .f32⟩
  | .local _ .vmem, ⟨0, _⟩ => ⟨S6x512x512, .f32⟩
  | .local _ .vmem, ⟨1, _⟩ => ⟨S4x512x512, .f32⟩
  | .local _ .vmem, ⟨2, _⟩ => ⟨S2x512x512, .f32⟩
  | .local _ .vmem, ⟨3, _⟩ => ⟨S384x512, .f32⟩
  | .local _ .vmem, ⟨4, _⟩ => ⟨S384x512, .f32⟩
  | .local _ .vmem, ⟨5, _⟩ => ⟨S6x384x384, .f32⟩
  | .local _ .vmem, ⟨6, _⟩ => ⟨S4x384x384, .f32⟩
  | .local _ .vmem, ⟨7, _⟩ => ⟨S2x384x384, .f32⟩
  | _, _ => ⟨S3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S3x512x512 : Shape := ⟨3, ![3, 512, 512]⟩
abbrev S2x512x512 : Shape := ⟨3, ![2, 512, 512]⟩
abbrev S512x512 : Shape := ⟨2, ![512, 512]⟩
abbrev S2 : Shape := ⟨1, ![2]⟩
abbrev S_ : Shape := ⟨0, ![]⟩
abbrev S1 : Shape := ⟨1, ![1]⟩
abbrev S640 : Shape := ⟨1, ![640]⟩
abbrev S512 : Shape := ⟨1, ![512]⟩
abbrev S1x640 : Shape := ⟨2, ![1, 640]⟩
abbrev S512x1 : Shape := ⟨2, ![512, 1]⟩
abbrev S512x640 : Shape := ⟨2, ![512, 640]⟩
abbrev S640x3x512 : Shape := ⟨3, ![640, 3, 512]⟩
abbrev S640x3x640 : Shape := ⟨3, ![640, 3, 640]⟩
abbrev S3x640x640 : Shape := ⟨3, ![3, 640, 640]⟩
abbrev S2x1 : Shape := ⟨2, ![2, 1]⟩
abbrev S2x262144 : Shape := ⟨2, ![2, 262144]⟩
abbrev S1x262144 : Shape := ⟨2, ![1, 262144]⟩
abbrev S2x409600 : Shape := ⟨2, ![2, 409600]⟩
abbrev S262144 : Shape := ⟨1, ![262144]⟩
abbrev S262144x1 : Shape := ⟨2, ![262144, 1]⟩
abbrev S409600 : Shape := ⟨1, ![409600]⟩
abbrev S2x640x640 : Shape := ⟨3, ![2, 640, 640]⟩
abbrev S640x640 : Shape := ⟨2, ![640, 640]⟩
abbrev S3x384x384 : Shape := ⟨3, ![3, 384, 384]⟩
abbrev S2x384x384 : Shape := ⟨3, ![2, 384, 384]⟩
abbrev S384x384 : Shape := ⟨2, ![384, 384]⟩

abbrev nBuf : Space → Nat
  | .hbm => 467
  | .vmem => 0
  | .smem => 0
  | _ => 0

abbrev hbmTy0_0 (i : Nat) : BufTy := match i % 128 with
  | 0 => ⟨S3x512x512, .f32⟩
  | 1 => ⟨S3x512x512, .f32⟩
  | 2 => ⟨S2x512x512, .f32⟩
  | 3 => ⟨S2x512x512, .f32⟩
  | 4 => ⟨S512x512, .i1⟩
  | 5 => ⟨S512x512, .i1⟩
  | 6 => ⟨S2, .f32⟩
  | 7 => ⟨S2, .f32⟩
  | 8 => ⟨S2, .f32⟩
  | 9 => ⟨S_, .f32⟩
  | 10 => ⟨S2, .f32⟩
  | 11 => ⟨S1, .f32⟩
  | 12 => ⟨S_, .f32⟩
  | 13 => ⟨S1, .f32⟩
  | 14 => ⟨S_, .f32⟩
  | 15 => ⟨S_, .f32⟩
  | 16 => ⟨S_, .f32⟩
  | 17 => ⟨S_, .f32⟩
  | 18 => ⟨S_, .f32⟩
  | 19 => ⟨S640, .f32⟩
  | 20 => ⟨S_, .f32⟩
  | 21 => ⟨S640, .f32⟩
  | 22 => ⟨S640, .f32⟩
  | 23 => ⟨S640, .f32⟩
  | 24 => ⟨S640, .f32⟩
  | 25 => ⟨S_, .f32⟩
  | 26 => ⟨S640, .f32⟩
  | 27 => ⟨S640, .f32⟩
  | 28 => ⟨S_, .f32⟩
  | 29 => ⟨S640, .f32⟩
  | 30 => ⟨S640, .f32⟩
  | 31 => ⟨S512, .f32⟩
  | 32 => ⟨S1x640, .f32⟩
  | 33 => ⟨S512x1, .f32⟩
  | 34 => ⟨S512x640, .f32⟩
  | 35 => ⟨S512x640, .f32⟩
  | 36 => ⟨S512x640, .f32⟩
  | 37 => ⟨S512x640, .f32⟩
  | 38 => ⟨S512x640, .f32⟩
  | 39 => ⟨S512x640, .f32⟩
  | 40 => ⟨S512x640, .f32⟩
  | 41 => ⟨S_, .f32⟩
  | 42 => ⟨S512x640, .f32⟩
  | 43 => ⟨S512x640, .f32⟩
  | 44 => ⟨S_, .f32⟩
  | 45 => ⟨S512x640, .f32⟩
  | 46 => ⟨S512x640, .f32⟩
  | 47 => ⟨S_, .f32⟩
  | 48 => ⟨S640, .f32⟩
  | 49 => ⟨S1x640, .f32⟩
  | 50 => ⟨S1x640, .f32⟩
  | 51 => ⟨S_, .f32⟩
  | 52 => ⟨S1x640, .f32⟩
  | 53 => ⟨S1x640, .i1⟩
  | 54 => ⟨S_, .f32⟩
  | 55 => ⟨S1x640, .f32⟩
  | 56 => ⟨S1x640, .i1⟩
  | 57 => ⟨S_, .i32⟩
  | 58 => ⟨S_, .f32⟩
  | 59 => ⟨S1x640, .f32⟩
  | 60 => ⟨S1x640, .f32⟩
  | 61 => ⟨S512x640, .f32⟩
  | 62 => ⟨S512x640, .f32⟩
  | 63 => ⟨S_, .i32⟩
  | 64 => ⟨S_, .f32⟩
  | 65 => ⟨S512x640, .i1⟩
  | 66 => ⟨S512x640, .f32⟩
  | 67 => ⟨S512x640, .f32⟩
  | 68 => ⟨S_, .f32⟩
  | 69 => ⟨S640, .f32⟩
  | 70 => ⟨S640, .i1⟩
  | 71 => ⟨S_, .f32⟩
  | 72 => ⟨S640, .f32⟩
  | 73 => ⟨S640, .i1⟩
  | 74 => ⟨S640, .i1⟩
  | 75 => ⟨S1x640, .i1⟩
  | 76 => ⟨S_, .i32⟩
  | 77 => ⟨S_, .f32⟩
  | 78 => ⟨S512x640, .i1⟩
  | 79 => ⟨S512x640, .f32⟩
  | 80 => ⟨S512x640, .f32⟩
  | 81 => ⟨S1, .f32⟩
  | 82 => ⟨S_, .f32⟩
  | 83 => ⟨S1, .f32⟩
  | 84 => ⟨S_, .f32⟩
  | 85 => ⟨S_, .f32⟩
  | 86 => ⟨S_, .f32⟩
  | 87 => ⟨S_, .f32⟩
  | 88 => ⟨S_, .f32⟩
  | 89 => ⟨S640, .f32⟩
  | 90 => ⟨S_, .f32⟩
  | 91 => ⟨S640, .f32⟩
  | 92 => ⟨S640, .f32⟩
  | 93 => ⟨S640, .f32⟩
  | 94 => ⟨S640, .f32⟩
  | 95 => ⟨S_, .f32⟩
  | 96 => ⟨S640, .f32⟩
  | 97 => ⟨S640, .f32⟩
  | 98 => ⟨S_, .f32⟩
  | 99 => ⟨S640, .f32⟩
  | 100 => ⟨S640, .f32⟩
  | 101 => ⟨S512, .f32⟩
  | 102 => ⟨S1x640, .f32⟩
  | 103 => ⟨S512x1, .f32⟩
  | 104 => ⟨S512x640, .f32⟩
  | 105 => ⟨S512x640, .f32⟩
  | 106 => ⟨S512x640, .f32⟩
  | 107 => ⟨S512x640, .f32⟩
  | 108 => ⟨S512x640, .f32⟩
  | 109 => ⟨S512x640, .f32⟩
  | 110 => ⟨S512x640, .f32⟩
  | 111 => ⟨S_, .f32⟩
  | 112 => ⟨S512x640, .f32⟩
  | 113 => ⟨S512x640, .f32⟩
  | 114 => ⟨S_, .f32⟩
  | 115 => ⟨S512x640, .f32⟩
  | 116 => ⟨S512x640, .f32⟩
  | 117 => ⟨S_, .f32⟩
  | 118 => ⟨S640, .f32⟩
  | 119 => ⟨S1x640, .f32⟩
  | 120 => ⟨S1x640, .f32⟩
  | 121 => ⟨S_, .f32⟩
  | 122 => ⟨S1x640, .f32⟩
  | 123 => ⟨S1x640, .i1⟩
  | 124 => ⟨S_, .f32⟩
  | 125 => ⟨S1x640, .f32⟩
  | 126 => ⟨S1x640, .i1⟩
  | 127 => ⟨S_, .i32⟩
  | _ => ⟨S3x512x512, .f32⟩

abbrev hbmTy0_1 (i : Nat) : BufTy := match i % 128 with
  | 0 => ⟨S_, .f32⟩
  | 1 => ⟨S1x640, .f32⟩
  | 2 => ⟨S1x640, .f32⟩
  | 3 => ⟨S512x640, .f32⟩
  | 4 => ⟨S512x640, .f32⟩
  | 5 => ⟨S_, .i32⟩
  | 6 => ⟨S_, .f32⟩
  | 7 => ⟨S512x640, .i1⟩
  | 8 => ⟨S512x640, .f32⟩
  | 9 => ⟨S512x640, .f32⟩
  | 10 => ⟨S_, .f32⟩
  | 11 => ⟨S640, .f32⟩
  | 12 => ⟨S640, .i1⟩
  | 13 => ⟨S_, .f32⟩
  | 14 => ⟨S640, .f32⟩
  | 15 => ⟨S640, .i1⟩
  | 16 => ⟨S640, .i1⟩
  | 17 => ⟨S1x640, .i1⟩
  | 18 => ⟨S_, .i32⟩
  | 19 => ⟨S_, .f32⟩
  | 20 => ⟨S512x640, .i1⟩
  | 21 => ⟨S512x640, .f32⟩
  | 22 => ⟨S512x640, .f32⟩
  | 23 => ⟨S640x3x512, .f32⟩
  | 24 => ⟨S640x3x640, .f32⟩
  | 25 => ⟨S3x640x640, .f32⟩
  | 26 => ⟨S1, .f32⟩
  | 27 => ⟨S_, .f32⟩
  | 28 => ⟨S1, .f32⟩
  | 29 => ⟨S_, .f32⟩
  | 30 => ⟨S_, .f32⟩
  | 31 => ⟨S_, .f32⟩
  | 32 => ⟨S_, .f32⟩
  | 33 => ⟨S_, .f32⟩
  | 34 => ⟨S640, .f32⟩
  | 35 => ⟨S_, .f32⟩
  | 36 => ⟨S640, .f32⟩
  | 37 => ⟨S640, .f32⟩
  | 38 => ⟨S640, .f32⟩
  | 39 => ⟨S640, .f32⟩
  | 40 => ⟨S_, .f32⟩
  | 41 => ⟨S640, .f32⟩
  | 42 => ⟨S640, .f32⟩
  | 43 => ⟨S_, .f32⟩
  | 44 => ⟨S640, .f32⟩
  | 45 => ⟨S640, .f32⟩
  | 46 => ⟨S512, .f32⟩
  | 47 => ⟨S1x640, .f32⟩
  | 48 => ⟨S512x1, .f32⟩
  | 49 => ⟨S512x640, .f32⟩
  | 50 => ⟨S512x640, .f32⟩
  | 51 => ⟨S512x640, .f32⟩
  | 52 => ⟨S512x640, .f32⟩
  | 53 => ⟨S512x640, .f32⟩
  | 54 => ⟨S512x640, .f32⟩
  | 55 => ⟨S512x640, .f32⟩
  | 56 => ⟨S_, .f32⟩
  | 57 => ⟨S512x640, .f32⟩
  | 58 => ⟨S512x640, .f32⟩
  | 59 => ⟨S_, .f32⟩
  | 60 => ⟨S512x640, .f32⟩
  | 61 => ⟨S512x640, .f32⟩
  | 62 => ⟨S_, .f32⟩
  | 63 => ⟨S640, .f32⟩
  | 64 => ⟨S1x640, .f32⟩
  | 65 => ⟨S1x640, .f32⟩
  | 66 => ⟨S_, .f32⟩
  | 67 => ⟨S1x640, .f32⟩
  | 68 => ⟨S1x640, .i1⟩
  | 69 => ⟨S_, .f32⟩
  | 70 => ⟨S1x640, .f32⟩
  | 71 => ⟨S1x640, .i1⟩
  | 72 => ⟨S_, .i32⟩
  | 73 => ⟨S_, .f32⟩
  | 74 => ⟨S1x640, .f32⟩
  | 75 => ⟨S1x640, .f32⟩
  | 76 => ⟨S512x640, .f32⟩
  | 77 => ⟨S512x640, .f32⟩
  | 78 => ⟨S_, .i32⟩
  | 79 => ⟨S_, .f32⟩
  | 80 => ⟨S512x640, .i1⟩
  | 81 => ⟨S512x640, .f32⟩
  | 82 => ⟨S512x640, .f32⟩
  | 83 => ⟨S_, .f32⟩
  | 84 => ⟨S640, .f32⟩
  | 85 => ⟨S640, .i1⟩
  | 86 => ⟨S_, .f32⟩
  | 87 => ⟨S640, .f32⟩
  | 88 => ⟨S640, .i1⟩
  | 89 => ⟨S640, .i1⟩
  | 90 => ⟨S1x640, .i1⟩
  | 91 => ⟨S_, .i32⟩
  | 92 => ⟨S_, .f32⟩
  | 93 => ⟨S512x640, .i1⟩
  | 94 => ⟨S512x640, .f32⟩
  | 95 => ⟨S512x640, .f32⟩
  | 96 => ⟨S1, .f32⟩
  | 97 => ⟨S_, .f32⟩
  | 98 => ⟨S1, .f32⟩
  | 99 => ⟨S_, .f32⟩
  | 100 => ⟨S_, .f32⟩
  | 101 => ⟨S_, .f32⟩
  | 102 => ⟨S_, .f32⟩
  | 103 => ⟨S_, .f32⟩
  | 104 => ⟨S640, .f32⟩
  | 105 => ⟨S_, .f32⟩
  | 106 => ⟨S640, .f32⟩
  | 107 => ⟨S640, .f32⟩
  | 108 => ⟨S640, .f32⟩
  | 109 => ⟨S640, .f32⟩
  | 110 => ⟨S_, .f32⟩
  | 111 => ⟨S640, .f32⟩
  | 112 => ⟨S640, .f32⟩
  | 113 => ⟨S_, .f32⟩
  | 114 => ⟨S640, .f32⟩
  | 115 => ⟨S640, .f32⟩
  | 116 => ⟨S512, .f32⟩
  | 117 => ⟨S1x640, .f32⟩
  | 118 => ⟨S512x1, .f32⟩
  | 119 => ⟨S512x640, .f32⟩
  | 120 => ⟨S512x640, .f32⟩
  | 121 => ⟨S512x640, .f32⟩
  | 122 => ⟨S512x640, .f32⟩
  | 123 => ⟨S512x640, .f32⟩
  | 124 => ⟨S512x640, .f32⟩
  | 125 => ⟨S512x640, .f32⟩
  | 126 => ⟨S_, .f32⟩
  | 127 => ⟨S512x640, .f32⟩
  | _ => ⟨S3x512x512, .f32⟩

abbrev hbmTy0_2 (i : Nat) : BufTy := match i % 128 with
  | 0 => ⟨S512x640, .f32⟩
  | 1 => ⟨S_, .f32⟩
  | 2 => ⟨S512x640, .f32⟩
  | 3 => ⟨S512x640, .f32⟩
  | 4 => ⟨S_, .f32⟩
  | 5 => ⟨S640, .f32⟩
  | 6 => ⟨S1x640, .f32⟩
  | 7 => ⟨S1x640, .f32⟩
  | 8 => ⟨S_, .f32⟩
  | 9 => ⟨S1x640, .f32⟩
  | 10 => ⟨S1x640, .i1⟩
  | 11 => ⟨S_, .f32⟩
  | 12 => ⟨S1x640, .f32⟩
  | 13 => ⟨S1x640, .i1⟩
  | 14 => ⟨S_, .i32⟩
  | 15 => ⟨S_, .f32⟩
  | 16 => ⟨S1x640, .f32⟩
  | 17 => ⟨S1x640, .f32⟩
  | 18 => ⟨S512x640, .f32⟩
  | 19 => ⟨S512x640, .f32⟩
  | 20 => ⟨S_, .i32⟩
  | 21 => ⟨S_, .f32⟩
  | 22 => ⟨S512x640, .i1⟩
  | 23 => ⟨S512x640, .f32⟩
  | 24 => ⟨S512x640, .f32⟩
  | 25 => ⟨S_, .f32⟩
  | 26 => ⟨S640, .f32⟩
  | 27 => ⟨S640, .i1⟩
  | 28 => ⟨S_, .f32⟩
  | 29 => ⟨S640, .f32⟩
  | 30 => ⟨S640, .i1⟩
  | 31 => ⟨S640, .i1⟩
  | 32 => ⟨S1x640, .i1⟩
  | 33 => ⟨S_, .i32⟩
  | 34 => ⟨S_, .f32⟩
  | 35 => ⟨S512x640, .i1⟩
  | 36 => ⟨S512x640, .f32⟩
  | 37 => ⟨S512x640, .f32⟩
  | 38 => ⟨S640x3x512, .f32⟩
  | 39 => ⟨S640x3x640, .f32⟩
  | 40 => ⟨S3x640x640, .f32⟩
  | 41 => ⟨S512, .i32⟩
  | 42 => ⟨S512, .i32⟩
  | 43 => ⟨S512x512, .i32⟩
  | 44 => ⟨S512x512, .i32⟩
  | 45 => ⟨S512x512, .f32⟩
  | 46 => ⟨S_, .f32⟩
  | 47 => ⟨S512x512, .f32⟩
  | 48 => ⟨S512x512, .f32⟩
  | 49 => ⟨S512x512, .f32⟩
  | 50 => ⟨S512x512, .i32⟩
  | 51 => ⟨S512x512, .f32⟩
  | 52 => ⟨S_, .f32⟩
  | 53 => ⟨S512x512, .f32⟩
  | 54 => ⟨S512x512, .f32⟩
  | 55 => ⟨S512x512, .f32⟩
  | 56 => ⟨S512x512, .i32⟩
  | 57 => ⟨S_, .i32⟩
  | 58 => ⟨S512x512, .i32⟩
  | 59 => ⟨S512x512, .i1⟩
  | 60 => ⟨S512x512, .i1⟩
  | 61 => ⟨S_, .i32⟩
  | 62 => ⟨S512x512, .i32⟩
  | 63 => ⟨S512x512, .i1⟩
  | 64 => ⟨S512x512, .i1⟩
  | 65 => ⟨S_, .i32⟩
  | 66 => ⟨S512x512, .i32⟩
  | 67 => ⟨S512x512, .i1⟩
  | 68 => ⟨S512x512, .i1⟩
  | 69 => ⟨S_, .i32⟩
  | 70 => ⟨S512x512, .i32⟩
  | 71 => ⟨S512x512, .i1⟩
  | 72 => ⟨S512x512, .i1⟩
  | 73 => ⟨S_, .i32⟩
  | 74 => ⟨S512x512, .i32⟩
  | 75 => ⟨S512x512, .i32⟩
  | 76 => ⟨S512x512, .i32⟩
  | 77 => ⟨S_, .i32⟩
  | 78 => ⟨S_, .i32⟩
  | 79 => ⟨S512x512, .i32⟩
  | 80 => ⟨S512x512, .i32⟩
  | 81 => ⟨S2x1, .f32⟩
  | 82 => ⟨S2x262144, .f32⟩
  | 83 => ⟨S2x262144, .f32⟩
  | 84 => ⟨S2x262144, .f32⟩
  | 85 => ⟨S1x262144, .i1⟩
  | 86 => ⟨S_, .f32⟩
  | 87 => ⟨S2x262144, .f32⟩
  | 88 => ⟨S2x262144, .i1⟩
  | 89 => ⟨S2x262144, .f32⟩
  | 90 => ⟨S_, .f32⟩
  | 91 => ⟨S2x409600, .f32⟩
  | 92 => ⟨S262144, .i32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S262144x1, .i32⟩
  | 101 => ⟨S2x409600, .f32⟩
  | 102 => ⟨S_, .f32⟩
  | 103 => ⟨S409600, .f32⟩
  | 104 => ⟨S262144, .i32⟩
  | 105 => ⟨S262144, .i1⟩
  | 106 => ⟨S_, .f32⟩
  | 107 => ⟨S_, .f32⟩
  | 108 => ⟨S262144, .f32⟩
  | 109 => ⟨S262144, .f32⟩
  | 110 => ⟨S262144, .f32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144, .f32⟩
  | 120 => ⟨S409600, .f32⟩
  | 121 => ⟨S2x640x640, .f32⟩
  | 122 => ⟨S640x640, .f32⟩
  | 123 => ⟨S512, .i32⟩
  | 124 => ⟨S512, .i32⟩
  | 125 => ⟨S512x512, .i32⟩
  | 126 => ⟨S512x512, .i32⟩
  | 127 => ⟨S512x512, .f32⟩
  | _ => ⟨S3x512x512, .f32⟩

abbrev hbmTy0_3 (i : Nat) : BufTy := match i % 128 with
  | 0 => ⟨S_, .f32⟩
  | 1 => ⟨S512x512, .f32⟩
  | 2 => ⟨S512x512, .f32⟩
  | 3 => ⟨S512x512, .f32⟩
  | 4 => ⟨S512x512, .i32⟩
  | 5 => ⟨S512x512, .f32⟩
  | 6 => ⟨S_, .f32⟩
  | 7 => ⟨S512x512, .f32⟩
  | 8 => ⟨S512x512, .f32⟩
  | 9 => ⟨S512x512, .f32⟩
  | 10 => ⟨S512x512, .i32⟩
  | 11 => ⟨S_, .i32⟩
  | 12 => ⟨S512x512, .i32⟩
  | 13 => ⟨S512x512, .i1⟩
  | 14 => ⟨S512x512, .i1⟩
  | 15 => ⟨S_, .i32⟩
  | 16 => ⟨S512x512, .i32⟩
  | 17 => ⟨S512x512, .i1⟩
  | 18 => ⟨S512x512, .i1⟩
  | 19 => ⟨S_, .i32⟩
  | 20 => ⟨S512x512, .i32⟩
  | 21 => ⟨S512x512, .i1⟩
  | 22 => ⟨S512x512, .i1⟩
  | 23 => ⟨S_, .i32⟩
  | 24 => ⟨S512x512, .i32⟩
  | 25 => ⟨S512x512, .i1⟩
  | 26 => ⟨S512x512, .i1⟩
  | 27 => ⟨S_, .i32⟩
  | 28 => ⟨S512x512, .i32⟩
  | 29 => ⟨S512x512, .i32⟩
  | 30 => ⟨S512x512, .i32⟩
  | 31 => ⟨S_, .i32⟩
  | 32 => ⟨S_, .i32⟩
  | 33 => ⟨S512x512, .i32⟩
  | 34 => ⟨S512x512, .i32⟩
  | 35 => ⟨S2x1, .f32⟩
  | 36 => ⟨S2x262144, .f32⟩
  | 37 => ⟨S2x262144, .f32⟩
  | 38 => ⟨S2x262144, .f32⟩
  | 39 => ⟨S1x262144, .i1⟩
  | 40 => ⟨S_, .f32⟩
  | 41 => ⟨S2x262144, .f32⟩
  | 42 => ⟨S2x262144, .i1⟩
  | 43 => ⟨S2x262144, .f32⟩
  | 44 => ⟨S_, .f32⟩
  | 45 => ⟨S2x409600, .f32⟩
  | 46 => ⟨S262144, .i32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S2x409600, .f32⟩
  | 56 => ⟨S_, .f32⟩
  | 57 => ⟨S409600, .f32⟩
  | 58 => ⟨S262144, .i32⟩
  | 59 => ⟨S262144, .i1⟩
  | 60 => ⟨S_, .f32⟩
  | 61 => ⟨S_, .f32⟩
  | 62 => ⟨S262144, .f32⟩
  | 63 => ⟨S262144, .f32⟩
  | 64 => ⟨S262144, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144, .f32⟩
  | 74 => ⟨S409600, .f32⟩
  | 75 => ⟨S2x640x640, .f32⟩
  | 76 => ⟨S640x640, .f32⟩
  | 77 => ⟨S3x384x384, .f32⟩
  | 78 => ⟨S3x384x384, .f32⟩
  | 79 => ⟨S2x384x384, .f32⟩
  | 80 => ⟨S2x384x384, .f32⟩
  | 81 => ⟨S384x384, .f32⟩
  | 82 => ⟨S384x384, .f32⟩
  | _ => ⟨S3x512x512, .f32⟩

abbrev hbmTy (i : Nat) : BufTy := match i / 128 with
  | 0 => hbmTy0_0 i
  | 1 => hbmTy0_1 i
  | 2 => hbmTy0_2 i
  | 3 => hbmTy0_3 i
  | _ => ⟨S3x512x512, .f32⟩

abbrev bufTy : (tb : Table) → Fin (tcTables nBuf tb) → BufTy
  | .hbm, ⟨i, _⟩ => hbmTy i
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_3 : Ref sig .tc := ⟨.hbm, 15, rfl⟩
abbrev main_v5 : Ref sig .tc := ⟨.hbm, 16, rfl⟩
abbrev main_cst_4 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v41 : Ref sig .tc := ⟨.hbm, 67, rfl⟩
abbrev main_cst_13 : Ref sig .tc := ⟨.hbm, 68, rfl⟩
abbrev main_v42 : Ref sig .tc := ⟨.hbm, 69, rfl⟩
abbrev main_v43 : Ref sig .tc := ⟨.hbm, 70, rfl⟩
abbrev main_cst_14 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_15 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_16 : Ref sig .tc := ⟨.hbm, 85, rfl⟩
abbrev main_v53 : Ref sig .tc := ⟨.hbm, 86, rfl⟩
abbrev main_cst_17 : Ref sig .tc := ⟨.hbm, 87, rfl⟩
abbrev main_v54 : Ref sig .tc := ⟨.hbm, 88, rfl⟩
abbrev main_v55 : Ref sig .tc := ⟨.hbm, 89, rfl⟩
abbrev main_cst_18 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_20 : Ref sig .tc := ⟨.hbm, 111, rfl⟩
abbrev main_v75 : Ref sig .tc := ⟨.hbm, 112, rfl⟩
abbrev main_v76 : Ref sig .tc := ⟨.hbm, 113, rfl⟩
abbrev main_cst_21 : Ref sig .tc := ⟨.hbm, 114, rfl⟩
abbrev main_v77 : Ref sig .tc := ⟨.hbm, 115, rfl⟩
abbrev main_v78 : Ref sig .tc := ⟨.hbm, 116, rfl⟩
abbrev main_cst_22 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_v82 : Ref sig .tc := ⟨.hbm, 122, rfl⟩
abbrev main_v83 : Ref sig .tc := ⟨.hbm, 123, rfl⟩
abbrev main_cst_24 : Ref sig .tc := ⟨.hbm, 124, rfl⟩
abbrev main_v84 : Ref sig .tc := ⟨.hbm, 125, rfl⟩
abbrev main_v85 : Ref sig .tc := ⟨.hbm, 126, rfl⟩
abbrev main_c_25 : Ref sig .tc := ⟨.hbm, 127, rfl⟩
abbrev main_call3_v0 : Ref sig .tc := ⟨.hbm, 128, rfl⟩
abbrev main_call3_v1 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_26 : Ref sig .tc := ⟨.hbm, 133, rfl⟩
abbrev main_call4_v0 : Ref sig .tc := ⟨.hbm, 134, rfl⟩
abbrev main_call4_v1 : Ref sig .tc := ⟨.hbm, 135, rfl⟩
abbrev main_call4_v2 : Ref sig .tc := ⟨.hbm, 136, rfl⟩
abbrev main_v89 : Ref sig .tc := ⟨.hbm, 137, rfl⟩
abbrev main_cst_27 : Ref sig .tc := ⟨.hbm, 138, rfl⟩
abbrev main_v90 : Ref sig .tc := ⟨.hbm, 139, rfl⟩
abbrev main_v91 : Ref sig .tc := ⟨.hbm, 140, rfl⟩
abbrev main_cst_28 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_c_29 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_30 : Ref sig .tc := ⟨.hbm, 158, rfl⟩
abbrev main_v104 : Ref sig .tc := ⟨.hbm, 159, rfl⟩
abbrev main_cst_31 : Ref sig .tc := ⟨.hbm, 160, rfl⟩
abbrev main_v105 : Ref sig .tc := ⟨.hbm, 161, rfl⟩
abbrev main_v106 : Ref sig .tc := ⟨.hbm, 162, rfl⟩
abbrev main_cst_32 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_cst_33 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_cst_34 : Ref sig .tc := ⟨.hbm, 184, rfl⟩
abbrev main_v126 : Ref sig .tc := ⟨.hbm, 185, rfl⟩
abbrev main_v127 : Ref sig .tc := ⟨.hbm, 186, rfl⟩
abbrev main_cst_35 : Ref sig .tc := ⟨.hbm, 187, rfl⟩
abbrev main_v128 : Ref sig .tc := ⟨.hbm, 188, rfl⟩
abbrev main_v129 : Ref sig .tc := ⟨.hbm, 189, rfl⟩
abbrev main_cst_36 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_37 : Ref sig .tc := ⟨.hbm, 194, rfl⟩
abbrev main_v133 : Ref sig .tc := ⟨.hbm, 195, rfl⟩
abbrev main_v134 : Ref sig .tc := ⟨.hbm, 196, rfl⟩
abbrev main_cst_38 : Ref sig .tc := ⟨.hbm, 197, rfl⟩
abbrev main_v135 : Ref sig .tc := ⟨.hbm, 198, rfl⟩
abbrev main_v136 : Ref sig .tc := ⟨.hbm, 199, rfl⟩
abbrev main_c_39 : Ref sig .tc := ⟨.hbm, 200, rfl⟩
abbrev main_call6_v0 : Ref sig .tc := ⟨.hbm, 201, rfl⟩
abbrev main_call6_v1 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_c_40 : Ref sig .tc := ⟨.hbm, 206, rfl⟩
abbrev main_call7_v0 : Ref sig .tc := ⟨.hbm, 207, rfl⟩
abbrev main_call7_v1 : Ref sig .tc := ⟨.hbm, 208, rfl⟩
abbrev main_call7_v2 : Ref sig .tc := ⟨.hbm, 209, rfl⟩
abbrev main_v140 : Ref sig .tc := ⟨.hbm, 210, rfl⟩
abbrev main_cst_41 : Ref sig .tc := ⟨.hbm, 211, rfl⟩
abbrev main_v141 : Ref sig .tc := ⟨.hbm, 212, rfl⟩
abbrev main_v142 : Ref sig .tc := ⟨.hbm, 213, rfl⟩
abbrev main_cst_42 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_c_43 : Ref sig .tc := ⟨.hbm, 219, rfl⟩
abbrev main_call8_v0 : Ref sig .tc := ⟨.hbm, 220, rfl⟩
abbrev main_call8_v1 : Ref sig .tc := ⟨.hbm, 221, rfl⟩
abbrev main_call8_v2 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_44 : Ref sig .tc := ⟨.hbm, 228, rfl⟩
abbrev main_v152 : Ref sig .tc := ⟨.hbm, 229, rfl⟩
abbrev main_cst_45 : Ref sig .tc := ⟨.hbm, 230, rfl⟩
abbrev main_v153 : Ref sig .tc := ⟨.hbm, 231, rfl⟩
abbrev main_v154 : Ref sig .tc := ⟨.hbm, 232, rfl⟩
abbrev main_cst_46 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_cst_47 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_48 : Ref sig .tc := ⟨.hbm, 254, rfl⟩
abbrev main_v174 : Ref sig .tc := ⟨.hbm, 255, rfl⟩
abbrev main_v175 : Ref sig .tc := ⟨.hbm, 256, rfl⟩
abbrev main_cst_49 : Ref sig .tc := ⟨.hbm, 257, rfl⟩
abbrev main_v176 : Ref sig .tc := ⟨.hbm, 258, rfl⟩
abbrev main_v177 : Ref sig .tc := ⟨.hbm, 259, rfl⟩
abbrev main_cst_50 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_cst_51 : Ref sig .tc := ⟨.hbm, 264, rfl⟩
abbrev main_v181 : Ref sig .tc := ⟨.hbm, 265, rfl⟩
abbrev main_v182 : Ref sig .tc := ⟨.hbm, 266, rfl⟩
abbrev main_cst_52 : Ref sig .tc := ⟨.hbm, 267, rfl⟩
abbrev main_v183 : Ref sig .tc := ⟨.hbm, 268, rfl⟩
abbrev main_v184 : Ref sig .tc := ⟨.hbm, 269, rfl⟩
abbrev main_c_53 : Ref sig .tc := ⟨.hbm, 270, rfl⟩
abbrev main_call9_v0 : Ref sig .tc := ⟨.hbm, 271, rfl⟩
abbrev main_call9_v1 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_c_54 : Ref sig .tc := ⟨.hbm, 276, rfl⟩
abbrev main_call10_v0 : Ref sig .tc := ⟨.hbm, 277, rfl⟩
abbrev main_call10_v1 : Ref sig .tc := ⟨.hbm, 278, rfl⟩
abbrev main_call10_v2 : Ref sig .tc := ⟨.hbm, 279, rfl⟩
abbrev main_v188 : Ref sig .tc := ⟨.hbm, 280, rfl⟩
abbrev main_cst_55 : Ref sig .tc := ⟨.hbm, 281, rfl⟩
abbrev main_v189 : Ref sig .tc := ⟨.hbm, 282, rfl⟩
abbrev main_v190 : Ref sig .tc := ⟨.hbm, 283, rfl⟩
abbrev main_cst_56 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_c_57 : Ref sig .tc := ⟨.hbm, 289, rfl⟩
abbrev main_call11_v0 : Ref sig .tc := ⟨.hbm, 290, rfl⟩
abbrev main_call11_v1 : Ref sig .tc := ⟨.hbm, 291, rfl⟩
abbrev main_call11_v2 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_cst_58 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_cst_59 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_c_60 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_c_61 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_c_62 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_c_63 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_c_64 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_c_65 : Ref sig .tc := ⟨.hbm, 333, rfl⟩
abbrev main_call14_v0 : Ref sig .tc := ⟨.hbm, 334, rfl⟩
abbrev main_call14_v1 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_cst_66 : Ref sig .tc := ⟨.hbm, 342, rfl⟩
abbrev main_v234 : Ref sig .tc := ⟨.hbm, 343, rfl⟩
abbrev main_call15_v0 : Ref sig .tc := ⟨.hbm, 344, rfl⟩
abbrev main_v235 : Ref sig .tc := ⟨.hbm, 345, rfl⟩
abbrev main_cst_67 : Ref sig .tc := ⟨.hbm, 346, rfl⟩
abbrev main_v236 : Ref sig .tc := ⟨.hbm, 347, rfl⟩
abbrev main_v237 : Ref sig .tc := ⟨.hbm, 348, rfl⟩
abbrev main_c_68 : Ref sig .tc := ⟨.hbm, 349, rfl⟩
abbrev main_v238 : Ref sig .tc := ⟨.hbm, 350, rfl⟩
abbrev main_v239 : Ref sig .tc := ⟨.hbm, 351, rfl⟩
abbrev main_c_69 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_cst_70 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_cst_71 : Ref sig .tc := ⟨.hbm, 362, rfl⟩
abbrev main_cst_72 : Ref sig .tc := ⟨.hbm, 363, rfl⟩
abbrev main_call16_v0 : Ref sig .tc := ⟨.hbm, 364, rfl⟩
abbrev main_call16_v1 : Ref sig .tc := ⟨.hbm, 365, rfl⟩
abbrev main_v248 : Ref sig .tc := ⟨.hbm, 366, rfl⟩
abbrev main_c_73 : Ref sig .tc := ⟨.hbm, 367, rfl⟩
abbrev main_v249 : Ref sig .tc := ⟨.hbm, 368, rfl⟩
abbrev main_v250 : Ref sig .tc := ⟨.hbm, 369, rfl⟩
abbrev main_c_74 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_cst_75 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_cst_76 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_v272 : Ref sig .tc := ⟨.hbm, 394, rfl⟩
abbrev main_c_77 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_c_78 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_c_79 : Ref sig .tc := ⟨.hbm, 403, rfl⟩
abbrev main_v279 : Ref sig .tc := ⟨.hbm, 404, rfl⟩
abbrev main_v280 : Ref sig .tc := ⟨.hbm, 405, rfl⟩
abbrev main_v281 : Ref sig .tc := ⟨.hbm, 406, rfl⟩
abbrev main_c_80 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_c_81 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_c_82 : Ref sig .tc := ⟨.hbm, 415, rfl⟩
abbrev main_call19_v0 : Ref sig .tc := ⟨.hbm, 416, rfl⟩
abbrev main_call19_v1 : Ref sig .tc := ⟨.hbm, 417, rfl⟩
abbrev main_v288 : Ref sig .tc := ⟨.hbm, 418, rfl⟩
abbrev main_v289 : Ref sig .tc := ⟨.hbm, 419, rfl⟩
abbrev main_v290 : Ref sig .tc := ⟨.hbm, 420, rfl⟩
abbrev main_v291 : Ref sig .tc := ⟨.hbm, 421, rfl⟩
abbrev main_v292 : Ref sig .tc := ⟨.hbm, 422, rfl⟩
abbrev main_v293 : Ref sig .tc := ⟨.hbm, 423, rfl⟩
abbrev main_cst_83 : Ref sig .tc := ⟨.hbm, 424, rfl⟩
abbrev main_v294 : Ref sig .tc := ⟨.hbm, 425, rfl⟩
abbrev main_call20_v0 : Ref sig .tc := ⟨.hbm, 426, rfl⟩
abbrev main_v295 : Ref sig .tc := ⟨.hbm, 427, rfl⟩
abbrev main_cst_84 : Ref sig .tc := ⟨.hbm, 428, rfl⟩
abbrev main_v296 : Ref sig .tc := ⟨.hbm, 429, rfl⟩
abbrev main_v297 : Ref sig .tc := ⟨.hbm, 430, rfl⟩
abbrev main_c_85 : Ref sig .tc := ⟨.hbm, 431, rfl⟩
abbrev main_v298 : Ref sig .tc := ⟨.hbm, 432, rfl⟩
abbrev main_v299 : Ref sig .tc := ⟨.hbm, 433, rfl⟩
abbrev main_c_86 : Ref sig .tc := ⟨.hbm, 434, rfl⟩
abbrev main_v300 : Ref sig .tc := ⟨.hbm, 435, rfl⟩
abbrev main_v301 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_cst_87 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_cst_88 : Ref sig .tc := ⟨.hbm, 444, rfl⟩
abbrev main_cst_89 : Ref sig .tc := ⟨.hbm, 445, rfl⟩
abbrev main_call21_v0 : Ref sig .tc := ⟨.hbm, 446, rfl⟩
abbrev main_call21_v1 : Ref sig .tc := ⟨.hbm, 447, rfl⟩
abbrev main_v308 : Ref sig .tc := ⟨.hbm, 448, rfl⟩
abbrev main_c_90 : Ref sig .tc := ⟨.hbm, 449, rfl⟩
abbrev main_v309 : Ref sig .tc := ⟨.hbm, 450, rfl⟩
abbrev main_v310 : Ref sig .tc := ⟨.hbm, 451, rfl⟩
abbrev main_c_91 : Ref sig .tc := ⟨.hbm, 452, rfl⟩
abbrev main_v311 : Ref sig .tc := ⟨.hbm, 453, rfl⟩
abbrev main_v312 : Ref sig .tc := ⟨.hbm, 454, rfl⟩
abbrev main_v313 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩

abbrev nD : Nat := 1
abbrev τ : Topo := Topo.v7x

variable {F : FTy → Type} [FloatOps F]
-- ==== Proof.KernelOut.lean ====
/- What the kernel's body leaves in its three output arrays, at an index, over the ideal reals: each plane is a product
   of a table, an input plane and the same table transposed. -/
module

public import proofs.«01_k».proof.Proof.Gen.KernelIdeal.Frame
public import Idealize.ShloMosaic.Lib.Tactic.CleanTypes
public import Idealize.ShloMosaic.Lib.Pointwise
public import Idealize.ShloMosaic.Lib.Pipeline.Value

@[expose] public section

set_option maxRecDepth 16384

noncomputable section

namespace Cert.Proof.Ker

open Cert.KernelIdeal Cert.KernelIdeal.Gen Idealize.ShloMosaic

/-- The entry (r, s) of the product of the table `w`, the plane `x` and the table transposed. -/
def both (w : FVec Ideal S384x512 .f32) (x : Fin 512 → Fin 512 → EReal) (r s : Fin 384) : EReal :=
  ∑ l : Fin 512, (∑ k : Fin 512, w (ix2 r k) * x k l) * w (ix2 s l)

/-- A plane's rectangle places its entry (r, s) in that plane. -/
theorem emb_plane {n a b : ℕ} (p : ℕ) (hp : p < n)
    (h : ∀ i, (![p, 0, 0] : Fin 3 → ℕ) i + (⟨3, ![1, a, b]⟩ : Shape).size i ≤ (⟨3, ![n, a, b]⟩ : Shape).size i)
    (q : Fin 1) (r : Fin a) (s : Fin b) :
    (Rect.unit (s := (⟨3, ![n, a, b]⟩ : Shape)) ![p, 0, 0] (⟨3, ![1, a, b]⟩ : Shape).size h).emb (ix3 q r s) = ix3 (⟨p, hp⟩ : Fin n) r s := by
  funext i
  fin_cases i <;> apply Fin.ext
  · show p + 1 * q.val = p
    omega
  · show 0 + 1 * r.val = r.val
    omega
  · show 0 + 1 * s.val = s.val
    omega

/-- The six image planes. -/
def images (w : FVec Ideal S384x512 .f32) (x : FVec Ideal S6x512x512 .f32) : FVec Ideal S6x384x384 .f32 :=
  fun y => both w (fun k l => x (ix3 (y 0 : Fin 6) k l)) (y 1) (y 2)

/-- The mask of a field's plane. -/
def half (p : Fin 4) : Fin 2 := ⟨p.val / 2, by omega⟩

/-- The four planes of the fields: planes 0 and 1 are masked by the first mask, planes 2 and 3 by the second. -/
def fields (w : FVec Ideal S384x512 .f32) (x : FVec Ideal S4x512x512 .f32) (m : FVec Ideal S2x512x512 .f32) : FVec Ideal S4x384x384 .f32 :=
  fun y => both w (fun k l => x (ix3 (y 0 : Fin 4) k l)
    * m (ix3 (half (y 0)) k l) * Ideal.ofBits .f32 0x3FA00000#32) (y 1) (y 2)

/-- The two planes of the masks. -/
def masks (w : FVec Ideal S384x512 .f32) (m : FVec Ideal S2x512x512 .f32) : FVec Ideal S2x384x384 .f32 :=
  fun y => both w (fun k l => m (ix3 (y 0 : Fin 2) k l)) (y 1) (y 2)

set_option maxHeartbeats 2000000 in
/-- The body leaves the six image planes in its first output. -/
theorem out5_eq (x0 : FVec Ideal S6x512x512 .f32) (x1 : FVec Ideal S4x512x512 .f32) (x2 : FVec Ideal S2x512x512 .f32)
    (x3 x4 : FVec Ideal S384x512 .f32) : out0_5 (F := Ideal) x0 x1 x2 x3 x4 = images x3 x0 := by
  funext y
  unfold_out out0_5
  refine View.canon_apply_of_pieces (Val := Elt Ideal) (images x3 x0) _ ?_ y (cover0_5 _ _ _ _ _ _ y)
  simp only [List.forall_mem_cons, List.not_mem_nil, false_imp_iff, implies_true, and_true]
  refine ⟨fun j => ?_, fun j => ?_, fun j => ?_, fun j => ?_, fun j => ?_, fun j => ?_⟩
  · idx_vars j
    rw [emb_plane 5 (by decide)]
    unfold_payloads
    unfold images both
    pointwise
  · idx_vars j
    rw [emb_plane 4 (by decide)]
    unfold_payloads
    unfold images both
    pointwise
  · idx_vars j
    rw [emb_plane 3 (by decide)]
    unfold_payloads
    unfold images both
    pointwise
  · idx_vars j
    rw [emb_plane 2 (by decide)]
    unfold_payloads
    unfold images both
    pointwise
  · idx_vars j
    rw [emb_plane 1 (by decide)]
    unfold_payloads
    unfold images both
    pointwise
  · idx_vars j
    rw [emb_plane 0 (by decide)]
    unfold_payloads
    unfold images both
    pointwise

set_option maxHeartbeats 2000000 in
/-- The body leaves the four planes of the fields in its second output. -/
theorem out6_eq (x0 : FVec Ideal S6x512x512 .f32) (x1 : FVec Ideal S4x512x512 .f32) (x2 : FVec Ideal S2x512x512 .f32)
    (x3 x4 : FVec Ideal S384x512 .f32) : out0_6 (F := Ideal) x0 x1 x2 x3 x4 = fields x4 x1 x2 := by
  funext y
  unfold_out out0_6
  refine View.canon_apply_of_pieces (Val := Elt Ideal) (fields x4 x1 x2) _ ?_ y (cover0_6 _ _ _ _ y)
  simp only [List.forall_mem_cons, List.not_mem_nil, false_imp_iff, implies_true, and_true]
  refine ⟨fun j => ?_, fun j => ?_, fun j => ?_, fun j => ?_⟩
  · idx_vars j
    rw [emb_plane 3 (by decide)]
    unfold_payloads
    unfold fields half both
    pointwise
  · idx_vars j
    rw [emb_plane 2 (by decide)]
    unfold_payloads
    unfold fields half both
    pointwise
  · idx_vars j
    rw [emb_plane 1 (by decide)]
    unfold_payloads
    unfold fields half both
    pointwise
  · idx_vars j
    rw [emb_plane 0 (by decide)]
    unfold_payloads
    unfold fields half both
    pointwise

set_option maxHeartbeats 2000000 in
/-- The body leaves the two planes of the masks in its third output. -/
theorem out7_eq (x0 : FVec Ideal S6x512x512 .f32) (x1 : FVec Ideal S4x512x512 .f32) (x2 : FVec Ideal S2x512x512 .f32)
    (x3 x4 : FVec Ideal S384x512 .f32) : out0_7 (F := Ideal) x0 x1 x2 x3 x4 = masks x4 x2 := by
  funext y
  unfold_out out0_7
  refine View.canon_apply_of_pieces (Val := Elt Ideal) (masks x4 x2) _ ?_ y (cover0_7 _ _ y)
  simp only [List.forall_mem_cons, List.not_mem_nil, false_imp_iff, implies_true, and_true]
  refine ⟨fun j => ?_, fun j => ?_⟩
  · idx_vars j
    rw [emb_plane 1 (by decide)]
    unfold_payloads
    unfold masks both
    pointwise
  · idx_vars j
    rw [emb_plane 0 (by decide)]
    unfold_payloads
    unfold masks both
    pointwise

end Cert.Proof.Ker
-- ==== Proof.Spec.lean ====
/- The mathematics that the kernel and the reference share: the bilinear weights as exact reals, the column to which
   a pixel of the sparse fields is sent, and the two laws that read the kernel's products with them. No program is
   named here. -/
module

public import Idealize.ShloMosaic.Lib.Pointwise

@[expose] public section

set_option maxRecDepth 16384

noncomputable section

namespace Cert.Proof

open Idealize.ShloMosaic

/-- Ten times the weight with which source pixel `k` enters output pixel `o`: the sample point is `(8 o - 1) / 10`. -/
def wt10 (o k : ℕ) : ℤ := max 0 (10 - |8 * (o : ℤ) - 1 - 10 * (k : ℤ)|)

/-- The bilinear weight of source pixel `k` in output pixel `o`. -/
def wt (o k : ℕ) : ℝ := (wt10 o k : ℝ) / 10

/-- The row or column of the large grid to which source position `k` is sent: `5 k / 4` rounded to the nearest whole
    number, ties to even. -/
def tgt (k : ℕ) : ℕ := if k % 4 = 2 then 5 * (k / 4) + 2 + (k / 4) % 2 else (5 * k + 2) / 4

/-- Different positions are sent to different places. -/
theorem tgt_inj {k l : ℕ} (h : tgt k = tgt l) : k = l := by
  unfold tgt at h
  split at h <;> split at h <;> omega

/-- Positions of the small grid are sent inside the large one. -/
theorem tgt_lt {k : ℕ} (h : k < 512) : tgt k < 640 := by
  unfold tgt
  split <;> omega

/-- The weight as a maximum of reals. -/
theorem wt_eq (o k : ℕ) : wt o k = max 0 (1 - |(8 * (o : ℝ) - 1) / 10 - (k : ℝ)|) := by
  have e : (8 * (o : ℝ) - 1) / 10 - (k : ℝ) = (8 * (o : ℝ) - 1 - 10 * k) / 10 := by ring
  unfold wt wt10
  rw [e, abs_div, abs_of_pos (by norm_num : (0 : ℝ) < 10)]
  push_cast
  rw [show (1 : ℝ) - |8 * (o : ℝ) - 1 - 10 * k| / 10 = (10 - |8 * (o : ℝ) - 1 - 10 * k|) / 10 by ring,
    show (0 : ℝ) = 0 / 10 by norm_num, max_div_div_right (by norm_num : (0 : ℝ) ≤ 10)]
  norm_num

/-- The weights of one inner output pixel sum to ten tenths. -/
theorem sum_wt10 (o : ℕ) (h1 : 1 ≤ o) (h : o < 512) : ∑ k : Fin 512, wt10 o k.val = 10 := by
  have hf : (8 * o - 1) / 10 + 1 < 512 := by omega
  rw [Finset.sum_eq_add (⟨(8 * o - 1) / 10, by omega⟩ : Fin 512) (⟨(8 * o - 1) / 10 + 1, hf⟩ : Fin 512)]
  · unfold wt10
    rw [abs_of_nonneg (by push_cast; omega), abs_of_nonpos (by push_cast; omega)]
    push_cast
    omega
  · intro e
    have := congrArg Fin.val e
    simp at this
  · rintro k - ⟨h1, h2⟩
    have e1 : k.val ≠ (8 * o - 1) / 10 := fun e => h1 (Fin.ext e)
    have e2 : k.val ≠ (8 * o - 1) / 10 + 1 := fun e => h2 (Fin.ext e)
    unfold wt10
    rcases abs_cases (8 * (o : ℤ) - 1 - 10 * (k.val : ℤ)) with ⟨e, _⟩ | ⟨e, _⟩ <;> rw [e] <;> omega
  · intro h; exact absurd (Finset.mem_univ _) h
  · intro h; exact absurd (Finset.mem_univ _) h

/-- The weights of one inner output pixel sum to one. -/
theorem sum_wt (o : ℕ) (h1 : 1 ≤ o) (h : o < 512) : ∑ k : Fin 512, wt o k.val = 1 := by
  unfold wt
  rw [← Finset.sum_div, ← Int.cast_sum, sum_wt10 o h1 h]
  norm_num

/-- The sum of reals, each read as an extended real, is the real sum. -/
theorem coe_sum {n : ℕ} (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- The entry of the 0/1 matrix that sends position `k` to row `o` of the large grid. -/
def sel (o k : ℕ) : EReal := if tgt k = o then 1 else 0

/-- A product with the 0/1 matrix on both sides, at the place to which `k` and `l` are sent: the entry there. -/
theorem sel_hit (x : Fin 512 → Fin 512 → EReal) (a b : ℕ) (k l : Fin 512) (hk : tgt k.val = a) (hl : tgt l.val = b) :
    ∑ l', (∑ k', sel a k'.val * x k' l') * sel b l'.val = x k l := by
  rw [Finset.sum_eq_single l]
  · rw [Finset.sum_eq_single k]
    · rw [sel, sel, if_pos hk, if_pos hl, one_mul, mul_one]
    · intro k' _ hne
      rw [sel, if_neg fun e => hne (Fin.ext (tgt_inj (e.trans hk.symm))), zero_mul]
    · intro h; exact absurd (Finset.mem_univ _) h
  · intro l' _ hne
    rw [sel, if_neg fun e => hne (Fin.ext (tgt_inj (e.trans hl.symm))), mul_zero]
  · intro h; exact absurd (Finset.mem_univ _) h

/-- The same product at a place to which nothing is sent: zero. -/
theorem sel_miss (x : Fin 512 → Fin 512 → EReal) (a b : ℕ)
    (h : ∀ k l : Fin 512, ¬ (tgt k.val = a ∧ tgt l.val = b)) :
    ∑ l', (∑ k', sel a k'.val * x k' l') * sel b l'.val = 0 := by
  refine Finset.sum_eq_zero fun l' _ => ?_
  by_cases hl : tgt l'.val = b
  · rw [Finset.sum_eq_zero, zero_mul]
    intro k' _
    rw [sel, if_neg fun e => h k' l' ⟨e, hl⟩, zero_mul]
  · rw [sel.eq_def b, if_neg hl, mul_zero]

end Cert.Proof

end
-- ==== Proof.Table.lean ====
/- The kernel's 0/1 table: its printed words, row by row, are one where the column is the position sent to the row, else zero. -/
module

public import proofs.«01_k».proof.KernelIdeal
public import proofs.«01_k».proof.Proof.Spec

@[expose] public section

set_option maxRecDepth 100000

namespace Cert.Proof

open Cert.KernelIdeal

/-- A function of the numbers below 128, written out as a match of the table's shape. -/
def pick (f : ℕ → BitVec 32) (m : ℕ) : BitVec 32 := match m with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

/-- The match is the function. -/
theorem pick_eq (f : ℕ → BitVec 32) (m : ℕ) (h : m < 128) : pick f m = f m := by
  interval_cases m <;> rfl

/-- The word of one at entry `c`, of zero elsewhere. -/
def hotWord (c m : ℕ) : BitVec 32 := cond (Nat.beq m c) 0x3F800000#32 0x00000000#32

/-- The position that is sent to `t`, if any is. -/
def src (t : ℕ) : ℕ := (8 * t + 5) / 10

/-- The entry of the one in the table's `j`-th stretch of 128 entries (a quarter of row `j / 4`); 128 where the stretch is all zeros. -/
def col (j : ℕ) : ℕ :=
  cond (Nat.beq (tgt (src (j / 4 + 128))) (j / 4 + 128)) (cond (Nat.beq (src (j / 4 + 128) / 128) (j % 4)) (src (j / 4 + 128) % 128) 128) 128

/-- Only `src t` can be sent to `t`. -/
theorem src_of_tgt {k t : ℕ} (h : tgt k = t) : src t = k := by
  unfold tgt at h
  unfold src
  split at h <;> omega

/-- Stretch `j` has its one exactly at the position sent to its row. -/
theorem hotWord_col (j m : ℕ) (hm : m < 128) :
    hotWord (col j) m = if tgt (128 * (j % 4) + m) = j / 4 + 128 then 0x3F800000#32 else 0x00000000#32 := by
  have hc : Nat.beq m (col j) = true ↔ tgt (128 * (j % 4) + m) = j / 4 + 128 := by
    rw [Nat.beq_eq]
    unfold col
    constructor
    · intro h
      cases h1 : Nat.beq (tgt (src (j / 4 + 128))) (j / 4 + 128) with
      | false => rw [h1] at h; simp at h; omega
      | true =>
        cases h2 : Nat.beq (src (j / 4 + 128) / 128) (j % 4) with
        | false => rw [h1, h2] at h; simp at h; omega
        | true =>
          rw [h1, h2] at h
          simp only [cond_true] at h
          rw [Nat.beq_eq] at h1 h2
          rw [show 128 * (j % 4) + m = src (j / 4 + 128) by omega, h1]
    · intro h
      have hs := src_of_tgt h
      have h1 : Nat.beq (tgt (src (j / 4 + 128))) (j / 4 + 128) = true := by rw [Nat.beq_eq, hs, h]
      have h2 : Nat.beq (src (j / 4 + 128) / 128) (j % 4) = true := by rw [Nat.beq_eq, hs]; omega
      rw [h1, h2, cond_true, cond_true, hs]
      omega
  unfold hotWord
  by_cases h : tgt (128 * (j % 4) + m) = j / 4 + 128
  · rw [if_pos h, hc.2 h, cond_true]
  · rw [if_neg h, Bool.eq_false_iff.2 fun e => h (hc.1 e), cond_false]

/-- The first large stretch of the printed table, as 128 pages of 128 words. -/
theorem node0 (i : ℕ) : lit0t1_0 i = pick (fun b => pick (hotWord (col (128 * 0 + b))) (i % 128)) (i / 128 % 128) := by rfl
/-- The second large stretch of the printed table, as 128 pages of 128 words. -/
theorem node1 (i : ℕ) : lit0t1_1 i = pick (fun b => pick (hotWord (col (128 * 1 + b))) (i % 128)) (i / 128 % 128) := by rfl
/-- The third large stretch of the printed table, as 128 pages of 128 words. -/
theorem node2 (i : ℕ) : lit0t1_2 i = pick (fun b => pick (hotWord (col (128 * 2 + b))) (i % 128)) (i / 128 % 128) := by rfl
/-- The fourth large stretch of the printed table, as 128 pages of 128 words. -/
theorem node3 (i : ℕ) : lit0t1_3 i = pick (fun b => pick (hotWord (col (128 * 3 + b))) (i % 128)) (i / 128 % 128) := by rfl
/-- The fifth large stretch of the printed table, as 128 pages of 128 words. -/
theorem node4 (i : ℕ) : lit0t1_4 i = pick (fun b => pick (hotWord (col (128 * 4 + b))) (i % 128)) (i / 128 % 128) := by rfl
/-- The sixth large stretch of the printed table, as 128 pages of 128 words. -/
theorem node5 (i : ℕ) : lit0t1_5 i = pick (fun b => pick (hotWord (col (128 * 5 + b))) (i % 128)) (i / 128 % 128) := by rfl
/-- The seventh large stretch of the printed table, as 128 pages of 128 words. -/
theorem node6 (i : ℕ) : lit0t1_6 i = pick (fun b => pick (hotWord (col (128 * 6 + b))) (i % 128)) (i / 128 % 128) := by rfl
/-- The eighth large stretch of the printed table, as 128 pages of 128 words. -/
theorem node7 (i : ℕ) : lit0t1_7 i = pick (fun b => pick (hotWord (col (128 * 7 + b))) (i % 128)) (i / 128 % 128) := by rfl
/-- The ninth large stretch of the printed table, as 128 pages of 128 words. -/
theorem node8 (i : ℕ) : lit0t1_8 i = pick (fun b => pick (hotWord (col (128 * 8 + b))) (i % 128)) (i / 128 % 128) := by rfl
/-- The tenth large stretch of the printed table, as 128 pages of 128 words. -/
theorem node9 (i : ℕ) : lit0t1_9 i = pick (fun b => pick (hotWord (col (128 * 9 + b))) (i % 128)) (i / 128 % 128) := by rfl
/-- The eleventh large stretch of the printed table, as 128 pages of 128 words. -/
theorem node10 (i : ℕ) : lit0t1_10 i = pick (fun b => pick (hotWord (col (128 * 10 + b))) (i % 128)) (i / 128 % 128) := by rfl
/-- The twelfth large stretch of the printed table, as 128 pages of 128 words. -/
theorem node11 (i : ℕ) : lit0t1_11 i = pick (fun b => pick (hotWord (col (128 * 11 + b))) (i % 128)) (i / 128 % 128) := by rfl

/-- The `a`-th large stretch, at an index in it. -/
theorem node_word (i a : ℕ) (ha : a = i / 16384) :
    pick (fun b => pick (hotWord (col (128 * a + b))) (i % 128)) (i / 128 % 128) =
      if tgt (i % 512) = i / 512 + 128 then 0x3F800000#32 else 0x00000000#32 := by
  rw [pick_eq _ _ (by omega), pick_eq _ _ (by omega), show 128 * a + i / 128 % 128 = i / 128 by omega, hotWord_col _ _ (by omega),
    show 128 * (i / 128 % 4) + i % 128 = i % 512 by omega, show i / 128 / 4 = i / 512 by omega]

/-- The printed table: entry `i`, row `i / 512` and column `i % 512`, is one where the column is sent to the row. -/
theorem lit0t_eq (i : ℕ) (h : i < 196608) : lit0t i = if tgt (i % 512) = i / 512 + 128 then 0x3F800000#32 else 0x00000000#32 := by
  have hb : i / 16384 < 12 := by omega
  have e : lit0t i = (match i / 16384 with
    | 0 => lit0t1_0 i | 1 => lit0t1_1 i | 2 => lit0t1_2 i | 3 => lit0t1_3 i | 4 => lit0t1_4 i | 5 => lit0t1_5 i
    | 6 => lit0t1_6 i | 7 => lit0t1_7 i | 8 => lit0t1_8 i | 9 => lit0t1_9 i | 10 => lit0t1_10 i | 11 => lit0t1_11 i
    | _ => 0#32) := rfl
  generalize ha : i / 16384 = a at e hb
  rw [e]
  interval_cases a
  · exact (node0 i).trans (node_word i 0 ha.symm)
  · exact (node1 i).trans (node_word i 1 ha.symm)
  · exact (node2 i).trans (node_word i 2 ha.symm)
  · exact (node3 i).trans (node_word i 3 ha.symm)
  · exact (node4 i).trans (node_word i 4 ha.symm)
  · exact (node5 i).trans (node_word i 5 ha.symm)
  · exact (node6 i).trans (node_word i 6 ha.symm)
  · exact (node7 i).trans (node_word i 7 ha.symm)
  · exact (node8 i).trans (node_word i 8 ha.symm)
  · exact (node9 i).trans (node_word i 9 ha.symm)
  · exact (node10 i).trans (node_word i 10 ha.symm)
  · exact (node11 i).trans (node_word i 11 ha.symm)

end Cert.Proof
-- ==== Proof.KernelValue.lean ====
/- The kernel's operands and the arrays its call leaves, over the ideal reals. -/
module

public import proofs.«01_k».proof.Proof.KernelOut
public import proofs.«01_k».proof.Proof.Table
public import Idealize.ShloMosaic.Lib.Claim
public import Idealize.ShloMosaic.Lib.StableHlo.ReadAt
public import Idealize.ShloMosaic.Lib.Pipeline.ValueKit

@[expose] public section

set_option maxRecDepth 16384

noncomputable section

namespace Cert.Proof.Ker

open Cert.KernelIdeal Cert.KernelIdeal.Gen Idealize.ShloMosaic Idealize.ShloMosaic.TcCoe

variable (m : (ℓ : Loc nD τ sig) → Buf (Elt Ideal) ℓ) (c : Dev nD)

/-- The words of the weights' table count tenths. -/
theorem word_wt (r k : ℕ) (hr : r < 384) (hk : k < 512) :
    (IntOp.maxsi (0#32) (IntOp.subi (10#32) (IntOp.absi (IntOp.subi
      (IntOp.subi (IntOp.muli (8#32) (IntOp.addi (128#32) (BitVec.ofNat 32 r))) 1#32) (IntOp.muli (10#32) (BitVec.ofNat 32 k)))))).toInt
      = wt10 (128 + r) k := by
  have self (z : ℤ) (h : -100000 ≤ z) (h' : z ≤ 100000) : (BitVec.ofInt 32 z).toInt = z :=
    BitVec.toInt_ofInt_eq_self (by norm_num) (by norm_num; omega) (by norm_num; omega)
  have sub (x y : ℤ) : BitVec.ofInt 32 x - BitVec.ofInt 32 y = BitVec.ofInt 32 (x - y) := by
    rw [sub_eq_add_neg x y, BitVec.ofInt_add, BitVec.ofInt_neg, BitVec.sub_eq_add_neg]
  have e : IntOp.subi (IntOp.subi (IntOp.muli (8#32) (IntOp.addi (128#32) (BitVec.ofNat 32 r))) 1#32) (IntOp.muli (10#32) (BitVec.ofNat 32 k))
      = BitVec.ofInt 32 (8 * ((128 + r : ℕ) : ℤ) - 1 - 10 * (k : ℤ)) := by
    rw [← sub, ← sub, BitVec.ofInt_mul, BitVec.ofInt_mul, Nat.cast_add, BitVec.ofInt_add]
    rfl
  rw [e]
  unfold wt10
  generalize hz : 8 * ((128 + r : ℕ) : ℤ) - 1 - 10 * (k : ℤ) = z
  have hz1 : -10000 ≤ z := by omega
  have hz2 : z ≤ 10000 := by omega
  have ha : IntOp.absi (BitVec.ofInt 32 z) = BitVec.ofInt 32 |z| := by
    unfold IntOp.absi
    rw [BitVec.msb_eq_toInt, self z (by omega) (by omega)]
    by_cases h : z < 0
    · rw [if_pos (by simpa using h), abs_of_neg h, BitVec.ofInt_neg]
    · rw [if_neg (by simpa using h), abs_of_nonneg (by omega)]
  have hs : IntOp.subi (10#32) (BitVec.ofInt 32 |z|) = BitVec.ofInt 32 (10 - |z|) := by rw [← sub]; rfl
  have hb : |z| ≤ 10000 := abs_le.2 ⟨by omega, hz2⟩
  have hb' := abs_nonneg z
  rw [ha, hs]
  unfold IntOp.maxsi
  rw [BitVec.slt_eq_decide, self (10 - |z|) (by omega) (by omega)]
  by_cases h : 10 - |z| < 0
  · rw [if_pos (by simpa using h), max_eq_left h.le]; rfl
  · rw [if_neg (by simpa using h), max_eq_right (by omega), self _ (by omega) (by omega)]

/-- The kernel's weights are the exact ones. -/
theorem table_apply (r : Fin 384) (k : Fin 512) :
    (V m c main_v28 : FVec Ideal S384x512 .f32) (ix2 r k) = ((wt (128 + r.val) k.val : ℝ) : EReal) := by
  have h10 : Ideal.ofBits .f32 1092616192#32 = ((10 : ℝ) : EReal) := by
    simp [Ideal.ofBits, Ideal.ieee, ← EReal.coe_mul]; norm_num
  unfold V V0
  after_reads_at
  rw [h10, Ideal.div_coe (by norm_num)]
  show (((_ : BitVec 32).toInt : ℝ) : EReal) * _ = _
  rw [word_wt r.val k.val r.isLt k.isLt, ← EReal.coe_mul]
  unfold wt
  congr 1
  ring

/-- The kernel's 0/1 table. -/
theorem select_apply (r : Fin 384) (k : Fin 512) :
    (V m c main_cst : FVec Ideal S384x512 .f32) (ix2 r k) = sel (128 + r.val) k.val := by
  have hk := k.isLt
  have hr := r.isLt
  have e : lit0 (S384x512.rowMajor (ix2 r k)) = lit0t (r.val * 512 + k.val) := by
    rw [← show (S384x512.rowMajor (ix2 r k)).val = r.val * 512 + k.val from Shape.rowMajor_val_two (d := ![384, 512]) (ix2 r k)]
  unfold V V0
  after_reads_at
  rw [e, lit0t_eq _ (by omega), show (r.val * 512 + k.val) % 512 = k.val by omega, show (r.val * 512 + k.val) / 512 + 128 = 128 + r.val by omega]
  unfold sel
  split
  · exact Ideal.ofBits_one_f32
  · simp [Ideal.ofBits, Ideal.ieee]

/-- The first operand holds the two images one after the other. -/
theorem v0_apply (p : Fin 6) (k l : Fin 512) : (V m c main_v0 : FVec Ideal S6x512x512 .f32) (ix3 p k l)
    = if h : p.val < 3 then (m (c, Proc.tc.devRef main_arg0) : FVec Ideal S3x512x512 .f32) (ix3 (⟨p.val, h⟩ : Fin 3) k l)
      else (m (c, Proc.tc.devRef main_arg1) : FVec Ideal S3x512x512 .f32) (ix3 (⟨p.val - 3, by omega⟩ : Fin 3) k l) := by
  unfold V V0
  after_reads_at

/-- The second operand holds the two fields one after the other. -/
theorem v1_apply (p : Fin 4) (k l : Fin 512) : (V m c main_v1 : FVec Ideal S4x512x512 .f32) (ix3 p k l)
    = if h : p.val < 2 then (m (c, Proc.tc.devRef main_arg2) : FVec Ideal S2x512x512 .f32) (ix3 (⟨p.val, h⟩ : Fin 2) k l)
      else (m (c, Proc.tc.devRef main_arg3) : FVec Ideal S2x512x512 .f32) (ix3 (⟨p.val - 2, by omega⟩ : Fin 2) k l) := by
  unfold V V0
  after_reads_at

/-- The third operand's first plane is the first mask. -/
theorem v5_apply0 (k l : Fin 512) : (V m c main_v5 : FVec Ideal S2x512x512 .f32) (ix3 (0 : Fin 2) k l)
    = FloatOps.uitofp (F := Ideal) .f32 ((m (c, Proc.tc.devRef main_arg4) : IVec S512x512 1) (ix2 k l)) := by
  unfold V V0
  after_reads_at
  after_reads_at

/-- The third operand's second plane is the second mask. -/
theorem v5_apply1 (k l : Fin 512) : (V m c main_v5 : FVec Ideal S2x512x512 .f32) (ix3 (1 : Fin 2) k l)
    = FloatOps.uitofp (F := Ideal) .f32 ((m (c, Proc.tc.devRef main_arg5) : IVec S512x512 1) (ix2 k l)) := by
  unfold V V0
  after_reads_at
  after_reads_at

/-- Operand 0's one block is the whole operand. -/
theorem iblk0 (t : Fin cfg0.N) : (iblk m c 0 t : FVec Ideal S6x512x512 .f32) = V m c main_v0 := by
  have e : ∀ t : Fin cfg0.N, win0_0.index t = ![0, 0, 0] := by decide +kernel
  funext y
  unfold iblk
  blk_simp
  blk_ext! [e t]

/-- Operand 1's one block is the whole operand. -/
theorem iblk1 (t : Fin cfg0.N) : (iblk m c 1 t : FVec Ideal S4x512x512 .f32) = V m c main_v1 := by
  have e : ∀ t : Fin cfg0.N, win0_1.index t = ![0, 0, 0] := by decide +kernel
  funext y
  unfold iblk
  blk_simp
  blk_ext! [e t]

/-- Operand 2's one block is the whole operand. -/
theorem iblk2 (t : Fin cfg0.N) : (iblk m c 2 t : FVec Ideal S2x512x512 .f32) = V m c main_v5 := by
  have e : ∀ t : Fin cfg0.N, win0_2.index t = ![0, 0, 0] := by decide +kernel
  funext y
  unfold iblk
  blk_simp
  blk_ext! [e t]

/-- Operand 3's one block is the whole operand. -/
theorem iblk3 (t : Fin cfg0.N) : (iblk m c 3 t : FVec Ideal S384x512 .f32) = V m c main_v28 := by
  have e : ∀ t : Fin cfg0.N, win0_3.index t = ![0, 0] := by decide +kernel
  funext y
  unfold iblk
  blk_simp
  blk_ext! [e t]

/-- Operand 4's one block is the whole operand. -/
theorem iblk4 (t : Fin cfg0.N) : (iblk m c 4 t : FVec Ideal S384x512 .f32) = V m c main_cst := by
  have e : ∀ t : Fin cfg0.N, win0_4.index t = ![0, 0] := by decide +kernel
  funext y
  unfold iblk
  blk_simp
  blk_ext! [e t]

/-- The call's output 0, counted from zero. -/
theorem arr5 : (dats m 0 c).arrAt 5 cfg0.N = images (V m c main_v28) (V m c main_v0) := by
  have e : ∀ t : Fin cfg0.N, win0_5.index t = ![0, 0, 0] := by decide +kernel
  refine (dats m 0 c).arrAt_eq_of_covers 5 _ (by decide +kernel) fun t hf y => ?_
  blk_simp
  rw [after0_5, out5_eq, iblk0, iblk3]
  refine congrArg (images (V m c main_v28) (V m c main_v0)) ?_
  funext a
  apply Fin.ext
  blk_simp [e t]
  have z : ∀ n q : ℕ, q = 0 * n + q := fun n q => by omega
  fin_cases a <;> exact z _ _

/-- The call's output 1, counted from zero. -/
theorem arr6 : (dats m 0 c).arrAt 6 cfg0.N = fields (V m c main_cst) (V m c main_v1) (V m c main_v5) := by
  have e : ∀ t : Fin cfg0.N, win0_6.index t = ![0, 0, 0] := by decide +kernel
  refine (dats m 0 c).arrAt_eq_of_covers 6 _ (by decide +kernel) fun t hf y => ?_
  blk_simp
  rw [after0_6, out6_eq, iblk1, iblk2, iblk4]
  refine congrArg (fields (V m c main_cst) (V m c main_v1) (V m c main_v5)) ?_
  funext a
  apply Fin.ext
  blk_simp [e t]
  have z : ∀ n q : ℕ, q = 0 * n + q := fun n q => by omega
  fin_cases a <;> exact z _ _

/-- The call's output 2, counted from zero. -/
theorem arr7 : (dats m 0 c).arrAt 7 cfg0.N = masks (V m c main_cst) (V m c main_v5) := by
  have e : ∀ t : Fin cfg0.N, win0_7.index t = ![0, 0, 0] := by decide +kernel
  refine (dats m 0 c).arrAt_eq_of_covers 7 _ (by decide +kernel) fun t hf y => ?_
  blk_simp
  rw [after0_7, out7_eq, iblk2, iblk4]
  refine congrArg (masks (V m c main_cst) (V m c main_v5)) ?_
  funext a
  apply Fin.ext
  blk_simp [e t]
  have z : ∀ n q : ℕ, q = 0 * n + q := fun n q => by omega
  fin_cases a <;> exact z _ _

end Cert.Proof.Ker
-- ==== Proof.RefImage.lean ====
/- The reference's two images at an index, over the ideal reals: the printed weights are the exact bilinear ones, and
   each result is the product of the weights with the picture on both sides. -/
module

public import proofs.«01_k».proof.Proof.Gen.ReferenceIdeal.Run
public import proofs.«01_k».proof.Proof.Spec
public import Idealize.ShloMosaic.Lib.Tactic.CleanTypes
public import Idealize.ShloMosaic.Lib.Pointwise

@[expose] public section

set_option maxRecDepth 16384

noncomputable section

namespace Cert.Proof.Ref

open Cert.ReferenceIdeal Cert.ReferenceIdeal.Gen Cert.ReferenceIdeal.Value Idealize.ShloMosaic Idealize.ShloMosaic.StableHlo

variable (V0 : Valuation τ sig (Elt Ideal))

/-- The number that the pattern of 5/4 denotes. -/
theorem ofBits_fiveFourths : Ideal.ofBits .f32 0x3FA00000#32 = ((5 / 4 : ℝ) : EReal) := by
  simp [Ideal.ofBits, Ideal.ieee, ← EReal.coe_mul]; norm_num

/-- The number that the pattern of one half denotes. -/
theorem ofBits_half : Ideal.ofBits .f32 0x3F000000#32 = ((1 / 2 : ℝ) : EReal) := by
  simp [Ideal.ofBits, Ideal.ieee, ← EReal.coe_mul]; norm_num

/-- The number that the pattern of minus one half denotes. -/
theorem ofBits_negHalf : Ideal.ofBits .f32 0xBF000000#32 = ((-(1 / 2) : ℝ) : EReal) := by
  simp [Ideal.ofBits, Ideal.ieee, -EReal.coe_mul, -EReal.coe_neg]; norm_num

/-- The number that the pattern of 511.5, the last sample point inside the picture, denotes. -/
theorem ofBits_last : Ideal.ofBits .f32 0x43FFC000#32 = ((1023 / 2 : ℝ) : EReal) := by
  simp [Ideal.ofBits, Ideal.ieee, ← EReal.coe_mul]; norm_num

/-- The threshold on a column's weight is a real at most one half. -/
theorem ofBits_eps : ∃ e : ℝ, e ≤ 1 / 2 ∧ Ideal.ofBits .f32 0x38FA0000#32 = ((e : ℝ) : EReal) := by
  refine ⟨16384000 / 137438953472, by norm_num, ?_⟩
  simp [Ideal.ofBits, Ideal.ieee, ← EReal.coe_mul]; norm_num

/-- One over 5/4 is 4/5. -/
theorem inv_scale : Ideal.div 1 (Ideal.ofBits .f32 0x3FA00000#32) = ((4 / 5 : ℝ) : EReal) := by
  rw [ofBits_fiveFourths, show (1 : EReal) = ((1 : ℝ) : EReal) from rfl, Ideal.div_coe, ← EReal.coe_mul] <;> norm_num

/-- A row number below 640, read as a signed word and converted, is itself. -/
theorem sitofp_ofNat (n : ℕ) (h : n < 640) : (FloatOps.sitofp .f32 (BitVec.ofNat 32 n) : Ideal .f32) = ((n : ℝ) : EReal) := by
  show (((BitVec.ofNat 32 n).toInt : ℝ) : EReal) = _
  rw [show (BitVec.ofNat 32 n).toInt = (n : ℤ) by rw [BitVec.toInt_eq_toNat_of_lt] <;> simp <;> omega]
  norm_cast

/-- A sample point from its row number. -/
theorem point_eq (o : ℕ) (h : o < 640) :
    ((FloatOps.sitofp .f32 (BitVec.ofNat 32 o) : Ideal .f32) + Ideal.ofBits .f32 0x3F000000#32) * ((4 / 5 : ℝ) : EReal) -
      0 * ((4 / 5 : ℝ) : EReal) - Ideal.ofBits .f32 0x3F000000#32 = (((8 * (o : ℝ) - 1) / 10 : ℝ) : EReal) := by
  rw [sitofp_ofNat o h, ofBits_half, zero_mul, sub_zero, ← EReal.coe_add, ← EReal.coe_mul, ← EReal.coe_sub]
  congr 1; ring

/-- The absolute value of a real. -/
theorem absf_coe (x : ℝ) : FloatOps.absf (F := Ideal) (φ := .f32) (x : EReal) = ((|x| : ℝ) : EReal) := by
  show max (x : EReal) (-(x : EReal)) = _
  rw [← EReal.coe_neg]; exact (EReal.coe_strictMono.monotone.map_max).symm

/-- A weight from its sample point and pixel number. -/
theorem weight_eq (k o : ℕ) (h : k < 640) :
    max 0 (1 - FloatOps.absf (F := Ideal) (φ := .f32) (Ideal.div (FloatOps.absf (F := Ideal) (φ := .f32) ((((8 * (o : ℝ) - 1) / 10 : ℝ) : EReal) -
      FloatOps.sitofp (F := Ideal) .f32 (BitVec.ofNat 32 k))) (max ((4 / 5 : ℝ) : EReal) 1))) =
      ((wt o k : ℝ) : EReal) := by
  have hm : max ((4 / 5 : ℝ) : EReal) 1 = ((1 : ℝ) : EReal) := by
    rw [max_eq_right]; · rfl
    · exact_mod_cast (by norm_num : (4 / 5 : ℝ) ≤ 1)
  rw [sitofp_ofNat k h, hm, ← EReal.coe_sub, absf_coe, Ideal.div_coe (by norm_num), ← EReal.coe_mul, absf_coe, wt_eq,
    show (1 : EReal) = ((1 : ℝ) : EReal) from rfl, ← EReal.coe_sub, show (0 : EReal) = ((0 : ℝ) : EReal) from rfl, div_one, mul_one, abs_abs]
  exact (EReal.coe_strictMono.monotone.map_max).symm

/-- The inverse scale is 4/5. -/
theorem v5_apply : (res_main_v5 V0 : FVec Ideal S_ .f32) ix0 = ((4 / 5 : ℝ) : EReal) := by
  unfold res_main_v5 res_main_cst
  clean_types
  pointwise
  exact inv_scale

/-- The sample point of row `o`. -/
theorem v16_apply (o : Fin 640) : (res_main_v16 V0 : FVec Ideal S640 .f32) (ix1 o) = (((8 * (o.val : ℝ) - 1) / 10 : ℝ) : EReal) := by
  have h := v5_apply V0
  unfold res_main_v16 res_main_v0
  clean_types
  pointwise
  rw [h]
  exact point_eq o.val o.isLt

/-- The weight of pixel `k` in row `o`. -/
theorem v30_apply (k : Fin 512) (o : Fin 640) : (res_main_v30 V0 : FVec Ideal S512x640 .f32) (ix2 k o) = ((wt o.val k.val : ℝ) : EReal) := by
  have h := v5_apply V0
  have h' := v16_apply V0 o
  unfold res_main_v30
  clean_types
  pointwise
  rw [h, h']
  exact weight_eq k.val o.val (by omega)

/-- The weights of a row inside the picture add up to one. -/
theorem v32_apply (o : Fin 640) (h1 : 1 ≤ o.val) (h2 : o.val < 512) :
    (res_main_v32 V0 : FVec Ideal S1x640 .f32) (ix2 0 o) = (1 : EReal) := by
  have h (k : Fin 512) := v30_apply V0 k o
  unfold res_main_v32
  clean_types
  pointwise
  simp only [h, coe_sum, sum_wt o.val h1 h2]
  rfl

/-- The inverse scale is 4/5. -/
theorem v53_apply : (res_main_v53 V0 : FVec Ideal S_ .f32) ix0 = ((4 / 5 : ℝ) : EReal) := by
  unfold res_main_v53 res_main_cst
  clean_types
  pointwise
  exact inv_scale

/-- The sample point of row `o`. -/
theorem v64_apply (o : Fin 640) : (res_main_v64 V0 : FVec Ideal S640 .f32) (ix1 o) = (((8 * (o.val : ℝ) - 1) / 10 : ℝ) : EReal) := by
  have h := v53_apply V0
  unfold res_main_v64 res_main_v0
  clean_types
  pointwise
  rw [h]
  exact point_eq o.val o.isLt

/-- The weight of pixel `k` in row `o`. -/
theorem v78_apply (k : Fin 512) (o : Fin 640) : (res_main_v78 V0 : FVec Ideal S512x640 .f32) (ix2 k o) = ((wt o.val k.val : ℝ) : EReal) := by
  have h := v53_apply V0
  have h' := v64_apply V0 o
  unfold res_main_v78
  clean_types
  pointwise
  rw [h, h']
  exact weight_eq k.val o.val (by omega)

/-- The weights of a row inside the picture add up to one. -/
theorem v80_apply (o : Fin 640) (h1 : 1 ≤ o.val) (h2 : o.val < 512) :
    (res_main_v80 V0 : FVec Ideal S1x640 .f32) (ix2 0 o) = (1 : EReal) := by
  have h (k : Fin 512) := v78_apply V0 k o
  unfold res_main_v80
  clean_types
  pointwise
  simp only [h, coe_sum, sum_wt o.val h1 h2]
  rfl

/-- The weights of one axis, from the sample points, the raw weights and their sums. -/
def weights (s : FVec Ideal S640 .f32) (w : FVec Ideal S512x640 .f32) (t : FVec Ideal S1x640 .f32) : FVec Ideal S512x640 .f32 :=
  select (broadcastInDim S512x640 ![0, 1] bcast_S1x640_S512x640_0_1 (broadcastInDim S1x640 ![1] bcast_S640_S1x640_1 (andi (cmpf .oge s (broadcastInDim S640 ![] bcast_S_S640 (constant S_ .f32 0xBF000000#32))) (cmpf .ole s (broadcastInDim S640 ![] bcast_S_S640 (constant S_ .f32 0x43FFC000#32)))))) (select (broadcastInDim S512x640 ![0, 1] bcast_S1x640_S512x640_0_1 (cmpf .ogt (Host.absf t) (broadcastInDim S1x640 ![] bcast_S_S1x640 (constant S_ .f32 0x38FA0000#32)))) (Host.divf w (broadcastInDim S512x640 ![0, 1] bcast_S1x640_S512x640_0_1 (select (cmpf .une t (broadcastInDim S1x640 ![] bcast_S_S1x640 (constant S_ .f32 0x00000000#32))) t (broadcastInDim S1x640 ![] bcast_S_S1x640 (sitofp .f32 (constantI S_ 32 1#32)))))) (broadcastInDim S512x640 ![] bcast_S_S512x640 (sitofp .f32 (constantI S_ 32 0#32)))) (broadcastInDim S512x640 ![] bcast_S_S512x640 (sitofp .f32 (constantI S_ 32 0#32)))

/-- A result picture, from the weights of the two axes and the source picture. -/
def image (a b : FVec Ideal S512x640 .f32) (x : FVec Ideal S3x512x512 .f32) : FVec Ideal S3x384x384 .f32 :=
  extractStridedSlice S3x384x384 ![0, 128, 128] (transpose S3x640x640 [1, 0, 2] (Host.dotGeneral dot_S640x3x512_S512x640_S640x3x640_2_0_01_1_n_n (some .fp32) (Host.dotGeneral dot_S512x640_S3x512x512_S640x3x512_0_1_1_02_n_n (some .fp32) a x) b) transposes_S640x3x640_S3x640x640_1_0_2) slices_S3x640x640_S3x384x384_0_128_128

/-- A row of sample points, raw weights and sums that hold the bilinear numbers of a row inside the picture. -/
theorem weights_apply (s : FVec Ideal S640 .f32) (w : FVec Ideal S512x640 .f32) (t : FVec Ideal S1x640 .f32) (k : Fin 512) (o : Fin 640)
    (ho : o.val < 512) (hs : s (ix1 o) = (((8 * (o.val : ℝ) - 1) / 10 : ℝ) : EReal))
    (hw : w (ix2 k o) = ((wt o.val k.val : ℝ) : EReal)) (ht : t (ix2 0 o) = (1 : EReal)) :
    weights s w t (ix2 k o) = ((wt o.val k.val : ℝ) : EReal) := by
  unfold weights
  pointwise
  rw [hs, hw, ht, ofBits_negHalf, ofBits_last]
  obtain ⟨e, he, hb⟩ := ofBits_eps
  have ho' : (o.val : ℝ) ≤ 511 := by exact_mod_cast Nat.le_of_lt_succ ho
  have ho0 : (0 : ℝ) ≤ (o.val : ℝ) := Nat.cast_nonneg _
  have h1 : ((-(1 / 2) : ℝ) : EReal) ≤ (((8 * (o.val : ℝ) - 1) / 10 : ℝ) : EReal) := by
    rw [EReal.coe_le_coe_iff]; linarith
  have h2 : (((8 * (o.val : ℝ) - 1) / 10 : ℝ) : EReal) ≤ ((1023 / 2 : ℝ) : EReal) := by
    rw [EReal.coe_le_coe_iff]; linarith
  have h3 : Ideal.ofBits .f32 0x38FA0000#32 < FloatOps.absf (F := Ideal) (φ := .f32) (1 : EReal) := by
    rw [hb, show (1 : EReal) = ((1 : ℝ) : EReal) from rfl, absf_coe, EReal.coe_lt_coe_iff, abs_one]; linarith
  have h4 : Ideal.div ((wt o.val k.val : ℝ) : EReal) 1 = ((wt o.val k.val : ℝ) : EReal) := by
    rw [show (1 : EReal) = ((1 : ℝ) : EReal) from rfl, Ideal.div_coe (by norm_num), ← EReal.coe_mul]; norm_num
  rw [decide_eq_true h1, decide_eq_true h2, if_pos h3, if_pos one_ne_zero, h4]
  rfl

/-- A result picture at an index. -/
theorem image_apply (a b : FVec Ideal S512x640 .f32) (x : FVec Ideal S3x512x512 .f32) (c : Fin 3) (r s : Fin 384) :
    image a b x (ix3 c r s) = ∑ l : Fin 512, (∑ k : Fin 512, a (ix2 k ⟨128 + r.val, by omega⟩) * x (ix3 c k l)) * b (ix2 l ⟨128 + s.val, by omega⟩) := by
  unfold image
  pointwise

/-- The exact bilinear resize of a picture by 5/4 on both axes, cropped at row and column 128. -/
def resized (x : FVec Ideal S3x512x512 .f32) (c : Fin 3) (r s : Fin 384) : EReal :=
  ∑ l : Fin 512, (∑ k : Fin 512, ((wt (128 + r.val) k.val : ℝ) : EReal) * x (ix3 c k l)) * ((wt (128 + s.val) l.val : ℝ) : EReal)

/-- The left picture at an index is the exact bilinear resize. -/
theorem left_apply (x : FVec Ideal S3x512x512 .f32) (c : Fin 3) (r s : Fin 384) :
    image (weights (res_main_v16 V0) (res_main_v30 V0) (res_main_v32 V0)) (weights (res_main_v64 V0) (res_main_v78 V0) (res_main_v80 V0)) x (ix3 c r s) =
      resized x c r s := by
  rw [image_apply]
  refine Finset.sum_congr rfl fun l _ => ?_
  have h1 (o : Fin 640) (k : Fin 512) (h : 1 ≤ o.val) (h' : o.val < 512) :=
    weights_apply _ _ _ k o h' (v16_apply V0 o) (v30_apply V0 k o) (v32_apply V0 o h h')
  have h2 (o : Fin 640) (k : Fin 512) (h : 1 ≤ o.val) (h' : o.val < 512) :=
    weights_apply _ _ _ k o h' (v64_apply V0 o) (v78_apply V0 k o) (v80_apply V0 o h h')
  rw [h2 ⟨128 + s.val, by omega⟩ l (by simp; omega) (by simp; omega)]
  refine congrArg (· * _) (Finset.sum_congr rfl fun k _ => ?_)
  rw [h1 ⟨128 + r.val, by omega⟩ k (by simp; omega) (by simp; omega)]

/-- The right picture at an index is the exact bilinear resize. -/
theorem right_apply (x : FVec Ideal S3x512x512 .f32) (c : Fin 3) (r s : Fin 384) :
    image (weights (res_main_v115 V0) (res_main_v129 V0) (res_main_v131 V0)) (weights (res_main_v163 V0) (res_main_v177 V0) (res_main_v179 V0)) x (ix3 c r s) =
      resized x c r s := left_apply V0 x c r s

end Cert.Proof.Ref

end
-- ==== Proof.KernelResults.lean ====
/- The kernel's six results at an index, over the ideal reals. -/
module

public import proofs.«01_k».proof.Proof.KernelValue
public import proofs.«01_k».proof.Proof.RefImage

@[expose] public section

set_option maxRecDepth 16384

noncomputable section

namespace Cert.Proof.Ker

open Cert.KernelIdeal Cert.KernelIdeal.Gen Idealize.ShloMosaic Idealize.ShloMosaic.TcCoe

variable (m : (ℓ : Loc nD τ sig) → Buf (Elt Ideal) ℓ) (c : Dev nD)

/-- What a buffer holds when the kernel has ended. -/
abbrev ends (b : Ref sig .tc) : Buf (Elt Ideal) ((c.tc : Thread nD τ).loc b) :=
  Pipeline.afterTail₀ cfgs (dats m) 0 (V0 m) [hostOps1] c b

/-- What the buffers hold when the call has ended. -/
abbrev called : Valuation τ sig (Elt Ideal) :=
  Pipeline.withArrays (cfgs 0).spec c (V0 m c) fun w => (dats m 0 c).arrAt w (cfgs 0).N

/-- The call's output 0, counted from zero, after the call. -/
theorem called5 : called m c (Proc.devRef .tc main_v29_0) = images (V m c main_v28) (V m c main_v0) :=
  (Pipeline.withArrays_arr spec0 (by decide) c (V0 m c) (fun w => (dats m 0 c).arrAt w (cfgs 0).N) 5).trans (arr5 m c)

/-- The call's output 1, counted from zero, after the call. -/
theorem called6 : called m c (Proc.devRef .tc main_v29_1) = fields (V m c main_cst) (V m c main_v1) (V m c main_v5) :=
  (Pipeline.withArrays_arr spec0 (by decide) c (V0 m c) (fun w => (dats m 0 c).arrAt w (cfgs 0).N) 6).trans (arr6 m c)

/-- The call's output 2, counted from zero, after the call. -/
theorem called7 : called m c (Proc.devRef .tc main_v29_2) = masks (V m c main_cst) (V m c main_v5) :=
  (Pipeline.withArrays_arr spec0 (by decide) c (V0 m c) (fun w => (dats m 0 c).arrAt w (cfgs 0).N) 7).trans (arr7 m c)

/-- A place of a field: the one entry that the 0/1 tables bring there, if its mask is set. -/
def placed (x : FVec Ideal S2x512x512 .f32) (M : IVec S512x512 1) (p : Fin 2) (r s : Fin 384) : EReal :=
  ∑ l : Fin 512, (∑ k : Fin 512, sel (128 + r.val) k.val
    * (x (ix3 p k l) * FloatOps.uitofp (F := Ideal) .f32 (M (ix2 k l)) * Ideal.ofBits .f32 0x3FA00000#32)) * sel (128 + s.val) l.val

/-- A place of a mask. -/
def placedMask (M : IVec S512x512 1) (r s : Fin 384) : EReal :=
  ∑ l : Fin 512, (∑ k : Fin 512, sel (128 + r.val) k.val * FloatOps.uitofp (F := Ideal) .f32 (M (ix2 k l))) * sel (128 + s.val) l.val

/-- A product with the weights' table on both sides. -/
theorem both_table (x : Fin 512 → Fin 512 → EReal) (r s : Fin 384) : both (V m c main_v28) x r s
    = ∑ l : Fin 512, (∑ k : Fin 512, ((wt (128 + r.val) k.val : ℝ) : EReal) * x k l) * ((wt (128 + s.val) l.val : ℝ) : EReal) := by
  unfold both
  simp only [table_apply m c]

/-- A product with the 0/1 table on both sides. -/
theorem both_select (x : Fin 512 → Fin 512 → EReal) (r s : Fin 384) : both (V m c main_cst) x r s
    = ∑ l : Fin 512, (∑ k : Fin 512, sel (128 + r.val) k.val * x k l) * sel (128 + s.val) l.val := by
  unfold both
  simp only [select_apply m c]

/-- The left picture is the exact bilinear resize. -/
theorem left_apply (p : Fin 3) (r s : Fin 384) : (ends m c main_v30 : FVec Ideal S3x384x384 .f32) (ix3 p r s)
    = Ref.resized (m (c, Proc.tc.devRef main_arg0)) p r s := by
  show StableHlo.after [hostOps1].flatten (called m c) (Proc.devRef .tc main_v30) (ix3 p r s) = _
  after_reads_at
  rw [called5]
  show both (V m c main_v28) (fun k l => (V m c main_v0 : FVec Ideal S6x512x512 .f32) (ix3 (⟨p.val, by omega⟩ : Fin 6) k l)) r s = _
  rw [both_table m c]
  unfold Ref.resized
  refine Finset.sum_congr rfl fun l _ => congrArg (· * _) (Finset.sum_congr rfl fun k _ => congrArg (_ * ·) ?_)
  beta_reduce
  rw [v0_apply m c]
  rw [dif_pos p.isLt]

/-- The right picture is the exact bilinear resize. -/
theorem right_apply (p : Fin 3) (r s : Fin 384) : (ends m c main_v31 : FVec Ideal S3x384x384 .f32) (ix3 p r s)
    = Ref.resized (m (c, Proc.tc.devRef main_arg1)) p r s := by
  show StableHlo.after [hostOps1].flatten (called m c) (Proc.devRef .tc main_v31) (ix3 p r s) = _
  after_reads_at
  rw [called5]
  show both (V m c main_v28) (fun k l => (V m c main_v0 : FVec Ideal S6x512x512 .f32) (ix3 (⟨3 + p.val, by omega⟩ : Fin 6) k l)) r s = _
  rw [both_table m c]
  unfold Ref.resized
  refine Finset.sum_congr rfl fun l _ => congrArg (· * _) (Finset.sum_congr rfl fun k _ => congrArg (_ * ·) ?_)
  beta_reduce
  rw [v0_apply m c]
  rw [dif_neg (show ¬ 3 + p.val < 3 by omega)]
  simp only [Nat.add_sub_cancel_left]

/-- A plane of the fields, its mask named. -/
theorem fields_at (w : FVec Ideal S384x512 .f32) (x : FVec Ideal S4x512x512 .f32) (M : FVec Ideal S2x512x512 .f32)
    (q : Fin 4) (h : Fin 2) (hh : half q = h) (r s : Fin 384) : fields w x M (ix3 q r s)
    = both w (fun k l => x (ix3 q k l) * M (ix3 h k l) * Ideal.ofBits .f32 0x3FA00000#32) r s := by
  subst hh
  rfl

/-- The left field holds the entries that the 0/1 tables bring. -/
theorem left_field_apply (p : Fin 2) (r s : Fin 384) : (ends m c main_v32 : FVec Ideal S2x384x384 .f32) (ix3 p r s)
    = placed (m (c, Proc.tc.devRef main_arg2)) (m (c, Proc.tc.devRef main_arg4)) p r s := by
  show StableHlo.after [hostOps1].flatten (called m c) (Proc.devRef .tc main_v32) (ix3 p r s) = _
  after_reads_at
  rw [called6]
  have hh : half (⟨p.val, by omega⟩ : Fin 4) = (0 : Fin 2) := Fin.ext (show p.val / 2 = 0 by omega)
  refine (fields_at _ _ _ _ _ hh r s).trans ?_
  rw [both_select m c]
  unfold placed
  refine Finset.sum_congr rfl fun l _ => congrArg (· * _) (Finset.sum_congr rfl fun k _ => ?_)
  have e : (V m c main_v1 : FVec Ideal S4x512x512 .f32) (ix3 (⟨p.val, by omega⟩ : Fin 4) k l) = (m (c, Proc.tc.devRef main_arg2) : FVec Ideal S2x512x512 .f32) (ix3 p k l) := by
    rw [v1_apply m c]
    rw [dif_pos p.isLt]
  exact congrArg₂ (fun u v : EReal => sel (128 + r.val) k.val * (u * v * Ideal.ofBits .f32 0x3FA00000#32)) e (v5_apply0 m c k l)

/-- The right field holds the entries that the 0/1 tables bring. -/
theorem right_field_apply (p : Fin 2) (r s : Fin 384) : (ends m c main_v33 : FVec Ideal S2x384x384 .f32) (ix3 p r s)
    = placed (m (c, Proc.tc.devRef main_arg3)) (m (c, Proc.tc.devRef main_arg5)) p r s := by
  show StableHlo.after [hostOps1].flatten (called m c) (Proc.devRef .tc main_v33) (ix3 p r s) = _
  after_reads_at
  rw [called6]
  have hh : half (⟨2 + p.val, by omega⟩ : Fin 4) = (1 : Fin 2) := Fin.ext (show (2 + p.val) / 2 = 1 by omega)
  refine (fields_at _ _ _ _ _ hh r s).trans ?_
  rw [both_select m c]
  unfold placed
  refine Finset.sum_congr rfl fun l _ => congrArg (· * _) (Finset.sum_congr rfl fun k _ => ?_)
  have e : (V m c main_v1 : FVec Ideal S4x512x512 .f32) (ix3 (⟨2 + p.val, by omega⟩ : Fin 4) k l) = (m (c, Proc.tc.devRef main_arg3) : FVec Ideal S2x512x512 .f32) (ix3 p k l) := by
    rw [v1_apply m c]
    rw [dif_neg (show ¬ 2 + p.val < 2 by omega)]
    simp only [Nat.add_sub_cancel_left]
  exact congrArg₂ (fun u v : EReal => sel (128 + r.val) k.val * (u * v * Ideal.ofBits .f32 0x3FA00000#32)) e (v5_apply1 m c k l)

/-- The left mask holds what the 0/1 tables bring. -/
theorem left_mask_apply (r s : Fin 384) : (ends m c main_v35 : FVec Ideal S384x384 .f32) (ix2 r s)
    = placedMask (m (c, Proc.tc.devRef main_arg4)) r s := by
  show StableHlo.after [hostOps1].flatten (called m c) (Proc.devRef .tc main_v35) (ix2 r s) = _
  after_reads_at
  rw [called7]
  show both (V m c main_cst) (fun k l => (V m c main_v5 : FVec Ideal S2x512x512 .f32) (ix3 (0 : Fin 2) k l)) r s = _
  rw [both_select m c]
  simp only [v5_apply0 m c]
  rfl

/-- The right mask holds what the 0/1 tables bring. -/
theorem right_mask_apply (r s : Fin 384) : (ends m c main_v37 : FVec Ideal S384x384 .f32) (ix2 r s)
    = placedMask (m (c, Proc.tc.devRef main_arg5)) r s := by
  show StableHlo.after [hostOps1].flatten (called m c) (Proc.devRef .tc main_v37) (ix2 r s) = _
  after_reads_at
  rw [called7]
  show both (V m c main_cst) (fun k l => (V m c main_v5 : FVec Ideal S2x512x512 .f32) (ix3 (1 : Fin 2) k l)) r s = _
  rw [both_select m c]
  simp only [v5_apply1 m c]
  rfl

end Cert.Proof.Ker
-- ==== Proof.RefFlow.lean ====
/- The reference's two sparse fields and two masks at an index, over the ideal reals: a place of the large grid holds the
   entry of the one position that is sent there if that position's mask is set, else zero. -/
module

public import proofs.«01_k».proof.Proof.RefImage
public import Idealize.ShloMosaic.Lib.Routing.OpsSet
public import Idealize.ShloMosaic.Lib.Tactic.WordOmega

@[expose] public section

set_option maxRecDepth 16384

noncomputable section

namespace Cert.Proof.Ref

open Cert.ReferenceIdeal Cert.ReferenceIdeal.Gen Cert.ReferenceIdeal.Value Idealize.ShloMosaic Idealize.ShloMosaic.StableHlo

variable (V0 : Valuation τ sig (Elt Ideal))

/-- A number between a whole number and one above it, rounded. -/
theorem round_of (r : ℝ) (f : ℤ) (h1 : (f : ℝ) ≤ r) (h2 : r < (f : ℝ) + 1) :
    Ideal.roundHalfEven r = if r - (f : ℝ) < 1 / 2 then f else if 1 / 2 < r - (f : ℝ) then f + 1 else if Even f then f else f + 1 := by
  have hf : ⌊r⌋ = f := Int.floor_eq_iff.2 ⟨h1, h2⟩
  unfold Ideal.roundHalfEven
  rw [hf]

/-- Five quarters of a position, rounded to the nearest whole number with ties to even, is the place to which the position is sent. -/
theorem round_tgt (k : ℕ) : Ideal.roundHalfEven ((k : ℝ) * (5 / 4)) = (tgt k : ℤ) := by
  obtain ⟨q, r, hr, rfl⟩ : ∃ q r : ℕ, r < 4 ∧ k = 4 * q + r := ⟨k / 4, k % 4, by omega, by omega⟩
  unfold tgt
  interval_cases r
  · rw [round_of _ (5 * q : ℤ) (by push_cast; linarith) (by push_cast; linarith), if_pos (by push_cast; linarith), if_neg (by omega)]
    omega
  · rw [round_of _ (5 * q + 1 : ℤ) (by push_cast; linarith) (by push_cast; linarith), if_pos (by push_cast; linarith), if_neg (by omega)]
    omega
  · rw [round_of _ (5 * q + 2 : ℤ) (by push_cast; linarith) (by push_cast; linarith), if_neg (by push_cast; linarith), if_neg (by push_cast; linarith)]
    simp only [if_pos (show (4 * q + 2) % 4 = 2 by omega), Int.even_iff]
    split_ifs <;> omega
  · rw [round_of _ (5 * q + 3 : ℤ) (by push_cast; linarith) (by push_cast; linarith), if_neg (by push_cast; linarith), if_pos (by push_cast; linarith),
      if_neg (by omega)]
    omega

/-- The word of the row to which position `k` is sent. -/
theorem fptosi_tgt (k : ℕ) (h : k < 512) :
    FloatOps.fptosi (F := Ideal) (φ := .f32) 32 (Ideal.liftRound Ideal.roundHalfEven
      (FloatOps.sitofp (F := Ideal) .f32 (BitVec.ofNat 32 k) * Ideal.ofBits .f32 0x3FA00000#32 : EReal))
      = BitVec.ofNat 32 (tgt k) := by
  have ht := tgt_lt h
  rw [sitofp_ofNat k (by omega), ofBits_fiveFourths, ← EReal.coe_mul, Ideal.liftRound_coe, round_tgt]
  show BitVec.ofInt 32 (Ideal.toIntClamped _ _ _) = _
  rw [Ideal.toIntClamped_coe, if_pos (by positivity), Int.floor_intCast, min_eq_right (by norm_num; omega), max_eq_right (by norm_num)]
  rfl

/-- The row words. -/
theorem v207_apply (k l : Fin 512) : (res_main_v207 V0 : IVec S512x512 32) (ix2 k l) = BitVec.ofNat 32 (tgt k.val) := by
  unfold res_main_v207
  clean_types
  pointwise
  exact fptosi_tgt k.val k.isLt

/-- The column words. -/
theorem v212_apply (k l : Fin 512) : (res_main_v212 V0 : IVec S512x512 32) (ix2 k l) = BitVec.ofNat 32 (tgt l.val) := by
  unfold res_main_v212
  clean_types
  pointwise
  exact fptosi_tgt l.val l.isLt

/-- A word below 640 passes both tests of its range. -/
theorem in_range (m : BitVec 1) (a b : ℕ) (ha : a < 640) (hb : b < 640) :
    IntOp.andi (IntOp.andi (IntOp.andi (IntOp.andi m (IntOp.cmpi CmpIPredicate.sge (BitVec.ofNat 32 a) 0#32))
      (IntOp.cmpi CmpIPredicate.slt (BitVec.ofNat 32 a) 640#32)) (IntOp.cmpi CmpIPredicate.sge (BitVec.ofNat 32 b) 0#32))
      (IntOp.cmpi CmpIPredicate.slt (BitVec.ofNat 32 b) 640#32) = m := by
  have h (a : ℕ) (ha : a < 640) : IntOp.cmpi CmpIPredicate.sge (BitVec.ofNat 32 a) 0#32 = 1#1 := by word_omega
  have h' (a : ℕ) (ha : a < 640) : IntOp.cmpi CmpIPredicate.slt (BitVec.ofNat 32 a) 640#32 = 1#1 := by word_omega
  rw [h a ha, h b hb, h' a ha, h' b hb]
  revert m; decide

/-- The flags, from a mask: the mask where the position is sent inside the large grid. -/
def flags (m : IVec S512x512 1) : IVec S512x512 1 :=
  andi (andi (andi (andi m (cmpi .sge (res_main_v207 V0) (broadcastInDim S512x512 ![] bcast_S_S512x512 (constantI S_ 32 0#32)))) (cmpi .slt (res_main_v207 V0) (broadcastInDim S512x512 ![] bcast_S_S512x512 (constantI S_ 32 640#32)))) (cmpi .sge (res_main_v212 V0) (broadcastInDim S512x512 ![] bcast_S_S512x512 (constantI S_ 32 0#32)))) (cmpi .slt (res_main_v212 V0) (broadcastInDim S512x512 ![] bcast_S_S512x512 (constantI S_ 32 640#32)))

/-- The flat indices, from the flags. -/
def flat (M : IVec S512x512 1) : IVec S262144 32 :=
  shapeCast S262144 (select M (addi (muli (res_main_v207 V0) (broadcastInDim S512x512 ![] bcast_S_S512x512 (constantI S_ 32 640#32))) (res_main_v212 V0)) (broadcastInDim S512x512 ![] bcast_S_S512x512 (id (constantI S_ 32 409600#32)))) shapeCasts_S512x512_S262144

/-- Every position is sent inside the large grid, so the flags are the mask. -/
theorem flags_apply (m : IVec S512x512 1) (k l : Fin 512) : flags V0 m (ix2 k l) = m (ix2 k l) := by
  have h1 := v207_apply V0 k l
  have h2 := v212_apply V0 k l
  unfold flags
  clean_types
  pointwise
  rw [h1, h2]
  exact in_range _ _ _ (tgt_lt k.isLt) (tgt_lt l.isLt)

/-- The flat index: the place to which the position is sent, or the number past the last place where the flag is not set. -/
theorem flat_apply (M : IVec S512x512 1) (n : Fin 262144) : flat V0 M (ix1 n) =
    BitVec.ofNat 32 (if M (ix2 ⟨n.val / 512, by omega⟩ ⟨n.val % 512, by omega⟩) = 1#1 then tgt (n.val / 512) * 640 + tgt (n.val % 512) else 409600) := by
  have h1 := v207_apply V0 ⟨n.val / 512, by omega⟩ ⟨n.val % 512, by omega⟩
  have h2 := v212_apply V0 ⟨n.val / 512, by omega⟩ ⟨n.val % 512, by omega⟩
  unfold flat id
  clean_types
  pointwise
  rw [h1, h2]
  generalize M (ix2 ⟨n.val / 512, by omega⟩ ⟨n.val % 512, by omega⟩) = m
  by_cases hm : m = 1#1
  · rw [hm, if_pos rfl, WordCmp.select_one]
    show BitVec.ofNat 32 (tgt (n.val / 512)) * BitVec.ofNat 32 640 + BitVec.ofNat 32 (tgt (n.val % 512)) = _
    rw [← BitVec.ofNat_mul, ← BitVec.ofNat_add]
  · rw [if_neg hm, ValueIdx.eq_zero_of_ne_one hm, WordCmp.select_zero]

/-- Where update `n` of the masks' scatter lands. -/
theorem lands1 (idx : IVec S262144x1 32) (n : Fin 262144) (e : Fin 409600) :
    scatter_S409600_S262144x1_S262144_n_0_0_1.resultIdx? (ix1 n) idx = some (ix1 e) ↔ (idx (ix2 n 0)).toInt = (e.val : ℤ) := by
  have h1 : scatter_S409600_S262144x1_S262144_n_0_0_1.start (ix1 n) idx 0 = (idx (ix2 n 0)).toInt :=
    congrArg (fun j => (idx j).toInt) (funext fun b => by match b with | ⟨0, _⟩ => rfl | ⟨1, _⟩ => rfl)
  have h2 : scatter_S409600_S262144x1_S262144_n_0_0_1.window (ix1 n) 0 = 0 := rfl
  rw [Routing.resultIdx?_eq_some]
  constructor
  · intro h
    have h' := h 0
    rw [h1, h2] at h'
    simpa using h'
  · intro h a
    match a with
    | ⟨0, _⟩ => exact (congrArg₂ (· + ·) h1 (congrArg Nat.cast h2)).trans (by simpa using h)

/-- Where update `n` of a field's scatter lands. -/
theorem lands2 (idx : IVec S262144x1 32) (c c' : Fin 2) (n : Fin 262144) (e : Fin 409600) :
    scatter_S2x409600_S262144x1_S2x262144_0_1_1_1.resultIdx? (ix2 c n) idx = some (ix2 c' e) ↔ c = c' ∧ (idx (ix2 n 0)).toInt = (e.val : ℤ) := by
  have h0 : scatter_S2x409600_S262144x1_S2x262144_0_1_1_1.start (ix2 c n) idx 0 = 0 := rfl
  have h1 : scatter_S2x409600_S262144x1_S2x262144_0_1_1_1.start (ix2 c n) idx 1 = (idx (ix2 n 0)).toInt :=
    congrArg (fun j => (idx j).toInt) (funext fun b => by match b with | ⟨0, _⟩ => rfl | ⟨1, _⟩ => rfl)
  have h2 : scatter_S2x409600_S262144x1_S2x262144_0_1_1_1.window (ix2 c n) 0 = c.val := rfl
  have h3 : scatter_S2x409600_S262144x1_S2x262144_0_1_1_1.window (ix2 c n) 1 = 0 := rfl
  rw [Routing.resultIdx?_eq_some]
  constructor
  · intro h
    have h' := h 0
    have h'' := h 1
    rw [h0, h2] at h'
    rw [h1, h3] at h''
    exact ⟨Fin.ext (by simpa using h'), by simpa using h''⟩
  · rintro ⟨rfl, h⟩ a
    match a with
    | ⟨0, _⟩ => exact (congrArg₂ (· + ·) h0 (congrArg Nat.cast h2)).trans (by simp)
    | ⟨1, _⟩ => exact (congrArg₂ (· + ·) h1 (congrArg Nat.cast h3)).trans (by simpa using h)

/-- The start indices of a scatter, from the flat indices: a negative one is wrapped. -/
def starts (I : IVec S262144 32) : IVec S262144x1 32 :=
  broadcastInDim S262144x1 ![0] bcast_S262144_S262144x1_0 (select (cmpi .slt I (broadcastInDim S262144 ![] bcast_S_S262144 (constantI S_ 32 0#32))) (addi I (broadcastInDim S262144 ![] bcast_S_S262144 (constantI S_ 32 409600#32))) I)

/-- The updates of a field's scatter. -/
def fieldUpd (M : IVec S512x512 1) (x : FVec Ideal S2x512x512 .f32) : FVec Ideal S2x262144 .f32 :=
  select (broadcastInDim S2x262144 ![0, 1] bcast_S1x262144_S2x262144_0_1 (shapeCast _ M shapeCasts_S512x512_S1x262144)) (mulf (shapeCast _ x shapeCasts_S2x512x512_S2x262144) (broadcastInDim S2x262144 ![0, 1] bcast_S2x1_S2x262144_0_1 (broadcastInDim S2x1 ![0] bcast_S2_S2x1_0 (constant S2 .f32 0x3FA00000#32)))) (broadcastInDim S2x262144 ![] bcast_S_S2x262144 (constant S_ .f32 0x00000000#32))

/-- The updates of a mask's scatter. -/
def maskUpd (M : IVec S512x512 1) : FVec Ideal S262144 .f32 :=
  id (select (shapeCast _ M shapeCasts_S512x512_S262144) (broadcastInDim S262144 ![] bcast_S_S262144 (constant S_ .f32 0x3F800000#32)) (broadcastInDim S262144 ![] bcast_S_S262144 (constant S_ .f32 0x00000000#32)))

/-- A result field, from the flat indices, the flags and the source field. -/
def field (I : IVec S262144 32) (M : IVec S512x512 1) (x : FVec Ideal S2x512x512 .f32) : FVec Ideal S2x384x384 .f32 :=
  extractStridedSlice S2x384x384 ![0, 128, 128] (shapeCast S2x640x640 (Host.scatter scatter_S2x409600_S262144x1_S2x262144_0_1_1_1 (fun _ b => b) (broadcastInDim S2x409600 ![] bcast_S_S2x409600 (constant S_ .f32 0x00000000#32)) (starts I) (fieldUpd M x)) shapeCasts_S2x409600_S2x640x640) slices_S2x640x640_S2x384x384_0_128_128

/-- A result mask, from the flat indices and the flags. -/
def mask (I : IVec S262144 32) (M : IVec S512x512 1) : FVec Ideal S384x384 .f32 :=
  extractStridedSlice S384x384 ![128, 128] (shapeCast S640x640 (Host.scatter scatter_S409600_S262144x1_S262144_n_0_0_1 (fun _ b => b) (broadcastInDim S409600 ![] bcast_S_S409600 (constant S_ .f32 0x00000000#32)) (starts I) (maskUpd M)) shapeCasts_S409600_S640x640) slices_S640x640_S384x384_128_128

/-- The start index of update `n`, read signed. -/
theorem starts_apply (M : IVec S512x512 1) (n : Fin 262144) :
    (starts (flat V0 M) (ix2 n 0)).toInt = ((if M (ix2 ⟨n.val / 512, by omega⟩ ⟨n.val % 512, by omega⟩) = 1#1 then
      tgt (n.val / 512) * 640 + tgt (n.val % 512) else 409600 : ℕ) : ℤ) := by
  unfold starts
  pointwise
  rw [flat_apply V0 M n]
  have h1 := tgt_lt (show n.val / 512 < 512 by omega)
  have h2 := tgt_lt (show n.val % 512 < 512 by omega)
  have hb : (if M (ix2 ⟨n.val / 512, by omega⟩ ⟨n.val % 512, by omega⟩) = 1#1 then
      tgt (n.val / 512) * 640 + tgt (n.val % 512) else 409600 : ℕ) ≤ 409600 := by split_ifs <;> omega
  generalize (if M (ix2 ⟨n.val / 512, by omega⟩ ⟨n.val % 512, by omega⟩) = 1#1 then
      tgt (n.val / 512) * 640 + tgt (n.val % 512) else 409600 : ℕ) = q at hb ⊢
  rw [Routing.wrap_of_lt _ _ (by rw [BitVec.toNat_ofNat]; omega), StableHlo.Predicate.toInt_ofNat_small _ (by omega)]

/-- An update that lands at row `128 + r` and column `128 + s` has its mask set and is the position sent there. -/
theorem starts_inj (M : IVec S512x512 1) (n : Fin 262144) (r s : Fin 384)
    (hn : (starts (flat V0 M) (ix2 n 0)).toInt = (((128 + r.val) * 640 + (128 + s.val) : ℕ) : ℤ)) :
    M (ix2 ⟨n.val / 512, by omega⟩ ⟨n.val % 512, by omega⟩) = 1#1 ∧ tgt (n.val / 512) = 128 + r.val ∧ tgt (n.val % 512) = 128 + s.val := by
  rw [starts_apply V0 M n] at hn
  have h1 := tgt_lt (show n.val / 512 < 512 by omega)
  have h2 := tgt_lt (show n.val % 512 < 512 by omega)
  have hr := r.isLt
  have hs := s.isLt
  by_cases hm : M (ix2 ⟨n.val / 512, by omega⟩ ⟨n.val % 512, by omega⟩) = 1#1
  · rw [if_pos hm] at hn
    refine ⟨hm, ?_, ?_⟩ <;> omega
  · rw [if_neg hm] at hn
    omega

/-- The update `n` of a field. -/
theorem fieldUpd_apply (M : IVec S512x512 1) (x : FVec Ideal S2x512x512 .f32) (c : Fin 2) (n : Fin 262144) :
    fieldUpd M x (ix2 c n) = if M (ix2 ⟨n.val / 512, by omega⟩ ⟨n.val % 512, by omega⟩) = 1#1 then
      x (ix3 c ⟨n.val / 512, by omega⟩ ⟨n.val % 512, by omega⟩) * ((5 / 4 : ℝ) : EReal) else (0 : EReal) := by
  unfold fieldUpd
  pointwise
  rw [ofBits_fiveFourths]
  rfl

/-- The update `n` of a mask. -/
theorem maskUpd_apply (M : IVec S512x512 1) (n : Fin 262144) :
    maskUpd M (ix1 n) = if M (ix2 ⟨n.val / 512, by omega⟩ ⟨n.val % 512, by omega⟩) = 1#1 then (1 : EReal) else (0 : EReal) := by
  unfold maskUpd id
  pointwise
  rfl

/-- A field at a place to which a position is sent. -/
theorem field_hit (M : IVec S512x512 1) (x : FVec Ideal S2x512x512 .f32) (c : Fin 2) (r s : Fin 384)
    (k l : Fin 512) (hk : tgt k.val = 128 + r.val) (hl : tgt l.val = 128 + s.val) :
    field (flat V0 M) M x (ix3 c r s) = if M (ix2 k l) = 1#1 then x (ix3 c k l) * ((5 / 4 : ℝ) : EReal) else (0 : EReal) := by
  have hu (n : Fin 262144) (h1 : tgt (n.val / 512) = 128 + r.val) (h2 : tgt (n.val % 512) = 128 + s.val) :
      n.val / 512 = k.val ∧ n.val % 512 = l.val := ⟨tgt_inj (h1.trans hk.symm), tgt_inj (h2.trans hl.symm)⟩
  unfold field
  pointwise
  by_cases hm : M (ix2 k l) = 1#1
  · have hq1 : (k.val * 512 + l.val) / 512 = k.val := by omega
    have hq2 : (k.val * 512 + l.val) % 512 = l.val := by omega
    refine Routing.scatter_set_hit _ _ _ _ _ _ (fun j hj => ?_) (ix2 c ⟨k.val * 512 + l.val, by omega⟩) ?_
    · idx_vars j
      rw [lands2] at hj
      obtain ⟨rfl, hn⟩ := hj
      obtain ⟨h1, h2, h3⟩ := starts_inj V0 M j1 r s hn
      obtain ⟨e1, e2⟩ := hu j1 h2 h3
      have f1 : (⟨j1.val / 512, by omega⟩ : Fin 512) = k := Fin.ext e1
      have f2 : (⟨j1.val % 512, by omega⟩ : Fin 512) = l := Fin.ext e2
      rw [fieldUpd_apply, f1, f2]
    · rw [lands2, starts_apply V0 M]
      simp only [hq1, hq2, Fin.eta, hm, if_true, hk, hl]
      simp
  · refine (Routing.scatter_set_miss _ _ _ _ _ fun j hj => ?_).trans ?_
    · idx_vars j
      rw [lands2] at hj
      obtain ⟨rfl, hn⟩ := hj
      obtain ⟨h1, h2, h3⟩ := starts_inj V0 M j1 r s hn
      obtain ⟨e1, e2⟩ := hu j1 h2 h3
      have f1 : (⟨j1.val / 512, by omega⟩ : Fin 512) = k := Fin.ext e1
      have f2 : (⟨j1.val % 512, by omega⟩ : Fin 512) = l := Fin.ext e2
      rw [f1, f2] at h1
      exact hm h1
    · rw [if_neg hm]
      pointwise

/-- A field at a place to which no position is sent: zero. -/
theorem field_miss (M : IVec S512x512 1) (x : FVec Ideal S2x512x512 .f32) (c : Fin 2) (r s : Fin 384)
    (hno : ∀ k l : Fin 512, ¬ (tgt k.val = 128 + r.val ∧ tgt l.val = 128 + s.val)) :
    field (flat V0 M) M x (ix3 c r s) = (0 : EReal) := by
  unfold field
  pointwise
  refine (Routing.scatter_set_miss _ _ _ _ _ fun j hj => ?_).trans (by pointwise)
  idx_vars j
  rw [lands2] at hj
  obtain ⟨rfl, hn⟩ := hj
  obtain ⟨h1, h2, h3⟩ := starts_inj V0 M j1 r s hn
  exact hno ⟨j1.val / 512, by omega⟩ ⟨j1.val % 512, by omega⟩ ⟨h2, h3⟩

/-- A mask at a place to which a position is sent. -/
theorem mask_hit (M : IVec S512x512 1) (r s : Fin 384)
    (k l : Fin 512) (hk : tgt k.val = 128 + r.val) (hl : tgt l.val = 128 + s.val) :
    mask (flat V0 M) M (ix2 r s) = if M (ix2 k l) = 1#1 then (1 : EReal) else (0 : EReal) := by
  have hu (n : Fin 262144) (h1 : tgt (n.val / 512) = 128 + r.val) (h2 : tgt (n.val % 512) = 128 + s.val) :
      n.val / 512 = k.val ∧ n.val % 512 = l.val := ⟨tgt_inj (h1.trans hk.symm), tgt_inj (h2.trans hl.symm)⟩
  unfold mask
  pointwise
  by_cases hm : M (ix2 k l) = 1#1
  · have hq1 : (k.val * 512 + l.val) / 512 = k.val := by omega
    have hq2 : (k.val * 512 + l.val) % 512 = l.val := by omega
    refine Routing.scatter_set_hit _ _ _ _ _ _ (fun j hj => ?_) (ix1 ⟨k.val * 512 + l.val, by omega⟩) ?_
    · idx_vars j
      rw [lands1] at hj
      obtain ⟨h1, h2, h3⟩ := starts_inj V0 M j0 r s hj
      obtain ⟨e1, e2⟩ := hu j0 h2 h3
      have f1 : (⟨j0.val / 512, by omega⟩ : Fin 512) = k := Fin.ext e1
      have f2 : (⟨j0.val % 512, by omega⟩ : Fin 512) = l := Fin.ext e2
      rw [maskUpd_apply, f1, f2]
    · rw [lands1, starts_apply V0 M]
      simp only [hq1, hq2, Fin.eta, hm, if_true, hk, hl]
  · refine (Routing.scatter_set_miss _ _ _ _ _ fun j hj => ?_).trans ?_
    · idx_vars j
      rw [lands1] at hj
      obtain ⟨h1, h2, h3⟩ := starts_inj V0 M j0 r s hj
      obtain ⟨e1, e2⟩ := hu j0 h2 h3
      have f1 : (⟨j0.val / 512, by omega⟩ : Fin 512) = k := Fin.ext e1
      have f2 : (⟨j0.val % 512, by omega⟩ : Fin 512) = l := Fin.ext e2
      rw [f1, f2] at h1
      exact hm h1
    · rw [if_neg hm]
      pointwise

/-- A mask at a place to which no position is sent: zero. -/
theorem mask_miss (M : IVec S512x512 1) (r s : Fin 384)
    (hno : ∀ k l : Fin 512, ¬ (tgt k.val = 128 + r.val ∧ tgt l.val = 128 + s.val)) :
    mask (flat V0 M) M (ix2 r s) = (0 : EReal) := by
  unfold mask
  pointwise
  refine (Routing.scatter_set_miss _ _ _ _ _ fun j hj => ?_).trans (by pointwise)
  idx_vars j
  rw [lands1] at hj
  obtain ⟨h1, h2, h3⟩ := starts_inj V0 M j0 r s hj
  exact hno ⟨j0.val / 512, by omega⟩ ⟨j0.val % 512, by omega⟩ ⟨h2, h3⟩

/-- The program's flags of the left mask are the ones named here. -/
theorem v224_eq : (res_main_v224 V0 : IVec S512x512 1) = flags V0 (V0 (Proc.devRef .tc main_arg4)) := rfl
/-- The program's flags of the right mask are the ones named here. -/
theorem v284_eq : (res_main_v284 V0 : IVec S512x512 1) = flags V0 (V0 (Proc.devRef .tc main_arg5)) := rfl
/-- The flat places at which the left field is written are the ones named here. -/
theorem v237_eq : (res_main_v237 V0 : IVec S262144 32) = flat V0 (flags V0 (V0 (Proc.devRef .tc main_arg4))) := rfl
/-- The flat places at which the right field is written are the ones named here. -/
theorem v297_eq : (res_main_v297 V0 : IVec S262144 32) = flat V0 (flags V0 (V0 (Proc.devRef .tc main_arg5))) := rfl
/-- The flat places at which the left mask is written are the ones named here. -/
theorem v246_eq : (res_main_v246 V0 : IVec S262144 32) = flat V0 (flags V0 (V0 (Proc.devRef .tc main_arg4))) := rfl
/-- The flat places at which the right mask is written are the ones named here. -/
theorem v306_eq : (res_main_v306 V0 : IVec S262144 32) = flat V0 (flags V0 (V0 (Proc.devRef .tc main_arg5))) := rfl

end Cert.Proof.Ref

end
-- ==== Proof.Equal.lean ====
/- The reference's fields and masks are the products with the 0/1 tables that the kernel forms. -/
module

public import proofs.«01_k».proof.Proof.KernelResults
public import proofs.«01_k».proof.Proof.RefFlow

@[expose] public section

set_option maxRecDepth 16384

noncomputable section

namespace Cert.Proof.Ref

open Cert.ReferenceIdeal Idealize.ShloMosaic Cert.Proof.Ker

variable (V0 : Valuation τ sig (Elt Ideal))

/-- A set flag as a number. -/
theorem uitofp_one {b : BitVec 1} (h : b = 1#1) : FloatOps.uitofp (F := Ideal) .f32 b = (1 : EReal) := by
  subst h
  show ((((1#1 : BitVec 1).toNat : ℝ)) : EReal) = 1
  simp

/-- A cleared flag as a number. -/
theorem uitofp_zero {b : BitVec 1} (h : ¬ b = 1#1) : FloatOps.uitofp (F := Ideal) .f32 b = (0 : EReal) := by
  obtain rfl : b = 0#1 := by
    revert h
    revert b
    decide
  show ((((0#1 : BitVec 1).toNat : ℝ)) : EReal) = 0
  simp

/-- The flags of the reference are its mask. -/
theorem flags_eq (M : IVec S512x512 1) : flags V0 M = M := by
  funext j
  idx_vars j
  exact flags_apply V0 M j0 j1

/-- A field of the reference holds what the 0/1 tables bring. -/
theorem field_eq (M : IVec S512x512 1) (x : FVec Ideal S2x512x512 .f32) (c : Fin 2) (r s : Fin 384) :
    field (flat V0 (flags V0 M)) (flags V0 M) x (ix3 c r s) = placed x M c r s := by
  rw [flags_eq]
  unfold placed
  by_cases h : ∃ k l : Fin 512, tgt k.val = 128 + r.val ∧ tgt l.val = 128 + s.val
  · obtain ⟨k, l, hk, hl⟩ := h
    rw [field_hit V0 M x c r s k l hk hl,
      sel_hit (fun k l => x (ix3 c k l) * FloatOps.uitofp (F := Ideal) .f32 (M (ix2 k l)) * Ideal.ofBits .f32 0x3FA00000#32) _ _ k l hk hl,
      ofBits_fiveFourths]
    split
    · rename_i hb
      rw [uitofp_one hb, mul_one]
    · rename_i hb
      rw [uitofp_zero hb, mul_zero, zero_mul]
  · have hno : ∀ k l : Fin 512, ¬ (tgt k.val = 128 + r.val ∧ tgt l.val = 128 + s.val) := fun k l e => h ⟨k, l, e⟩
    rw [field_miss V0 M x c r s hno]
    exact (sel_miss (fun k l => x (ix3 c k l) * FloatOps.uitofp (F := Ideal) .f32 (M (ix2 k l)) * Ideal.ofBits .f32 0x3FA00000#32) _ _ hno).symm

/-- A mask of the reference holds what the 0/1 tables bring. -/
theorem mask_eq (M : IVec S512x512 1) (r s : Fin 384) :
    mask (flat V0 (flags V0 M)) (flags V0 M) (ix2 r s) = placedMask M r s := by
  rw [flags_eq]
  unfold placedMask
  by_cases h : ∃ k l : Fin 512, tgt k.val = 128 + r.val ∧ tgt l.val = 128 + s.val
  · obtain ⟨k, l, hk, hl⟩ := h
    rw [mask_hit V0 M r s k l hk hl, sel_hit (fun k l => FloatOps.uitofp (F := Ideal) .f32 (M (ix2 k l))) _ _ k l hk hl]
    split
    · rename_i hb
      rw [uitofp_one hb]
    · rename_i hb
      rw [uitofp_zero hb]
  · have hno : ∀ k l : Fin 512, ¬ (tgt k.val = 128 + r.val ∧ tgt l.val = 128 + s.val) := fun k l e => h ⟨k, l, e⟩
    rw [mask_miss V0 M r s hno]
    exact (sel_miss (fun k l => FloatOps.uitofp (F := Ideal) .f32 (M (ix2 k l))) _ _ hno).symm

end Cert.Proof.Ref

end
-- ==== Proof.lean ====
/- The five claims: the kernel, its idealized form and the idealized reference each run, leave their arguments as
   they were and end with every semaphore at zero; idealizing the kernel keeps its program; and the idealized kernel
   and reference end with equal results. The values are computed in the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Lib.Quiescent
public import Idealize.ShloMosaic.Init

@[expose] public section

set_option maxRecDepth 100000

noncomputable section

namespace Cert.Proof

open Idealize.ShloMosaic Idealize.SL.Sem

/-- The reference runs, leaves its arguments as they were and ends with every semaphore at zero. -/
theorem frame_reference : Cert.quiescent_ReferenceIdeal (hReferenceIdeal := Cert.ReferenceIdeal.Gen.facts) := by
  intro m g _
  exact (θ_run Cert.ReferenceIdeal.defs _ _).mono (fun r h => ⟨fun c => (h c).2.2.2.2.2.2, sem_eq_zero_of_no_sems rfl r.2⟩)
    (Cert.ReferenceIdeal.Value.run m g)

section
open Cert.KernelIdeal Cert.KernelIdeal.Gen Idealize.ShloMosaic.TcCoe

/-- The kernel runs, ends with its six results, and leaves its arguments as they were. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v30) = Ker.ends m c main_v30
      ∧ r.2.mem ((c.tc : Thread nD τ).loc main_v31) = Ker.ends m c main_v31
      ∧ r.2.mem ((c.tc : Thread nD τ).loc main_v32) = Ker.ends m c main_v32
      ∧ r.2.mem ((c.tc : Thread nD τ).loc main_v33) = Ker.ends m c main_v33
      ∧ r.2.mem ((c.tc : Thread nD τ).loc main_v35) = Ker.ends m c main_v35
      ∧ r.2.mem ((c.tc : Thread nD τ).loc main_v37) = Ker.ends m c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c).2 main_v30 (Pipeline.mem_restRefs_of main_v30 (by decide) (by decide)),
    (h c).2 main_v31 (Pipeline.mem_restRefs_of main_v31 (by decide) (by decide)),
    (h c).2 main_v32 (Pipeline.mem_restRefs_of main_v32 (by decide) (by decide)),
    (h c).2 main_v33 (Pipeline.mem_restRefs_of main_v33 (by decide) (by decide)),
    (h c).2 main_v35 (Pipeline.mem_restRefs_of main_v35 (by decide) (by decide)),
    (h c).2 main_v37 (Pipeline.mem_restRefs_of main_v37 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c)⟩) (run_main m g)

end

/-- Two stacks of planes that hold the same entries are equal. -/
theorem agree3 {n : ℕ} (f g : (⟨3, ![n, 384, 384]⟩ : Shape).Idx → EReal) (G : Fin n → Fin 384 → Fin 384 → EReal)
    (hf : ∀ p r s, f (ix3 p r s) = G p r s) (hg : ∀ p r s, g (ix3 p r s) = G p r s) : f = g := by
  funext j
  have e : j = ix3 (j 0) (j 1) (j 2) := by
    funext a
    fin_cases a <;> rfl
  rw [e]
  exact (hf _ _ _).trans (hg _ _ _).symm

/-- Two planes that hold the same entries are equal. -/
theorem agree2 (f g : (⟨2, ![384, 384]⟩ : Shape).Idx → EReal) (G : Fin 384 → Fin 384 → EReal)
    (hf : ∀ r s, f (ix2 r s) = G r s) (hg : ∀ r s, g (ix2 r s) = G r s) : f = g := by
  funext j
  idx_vars j
  exact (hf j0 j1).trans (hg j0 j1).symm

/-- The kernel and the reference end with equal results. -/
theorem equal : Cert.algebraic_KernelIdeal_ReferenceIdeal (hKernelIdeal := Cert.KernelIdeal.Gen.facts)
    (hReferenceIdeal := Cert.ReferenceIdeal.Gen.facts) := by
  intro m g m' g' _ hagree
  refine ⟨fun c => Ker.ends m c Cert.KernelIdeal.main_v30, fun c => Ker.ends m c Cert.KernelIdeal.main_v31, fun c => Ker.ends m c Cert.KernelIdeal.main_v32, fun c => Ker.ends m c Cert.KernelIdeal.main_v33, fun c => Ker.ends m c Cert.KernelIdeal.main_v35, fun c => Ker.ends m c Cert.KernelIdeal.main_v37, kernel_run m g,
    (θ_run Cert.ReferenceIdeal.defs _ _).mono (fun r h c => ?_) (Cert.ReferenceIdeal.Value.run m' g')⟩
  obtain ⟨h0, h1, h2, h3, h4, h5, ha⟩ := h c
  obtain ⟨a0, a1, a2, a3, a4, a5⟩ := hagree c
  refine ⟨h0.trans ?_, h1.trans ?_, h2.trans ?_, h3.trans ?_, h4.trans ?_, h5.trans ?_, ha⟩
  · exact agree3 _ _ (Ref.resized (m (c, Proc.devRef .tc Cert.KernelIdeal.main_arg0)))
      (fun p r s => (Ref.left_apply (StableHlo.launchContents m' c) _ p r s).trans (congrArg (fun x => Ref.resized x p r s) a0))
      (Ker.left_apply m c)
  · exact agree3 _ _ (Ref.resized (m (c, Proc.devRef .tc Cert.KernelIdeal.main_arg1)))
      (fun p r s => (Ref.right_apply (StableHlo.launchContents m' c) _ p r s).trans (congrArg (fun x => Ref.resized x p r s) a1))
      (Ker.right_apply m c)
  · exact agree3 _ _ (Ker.placed (m (c, Proc.devRef .tc Cert.KernelIdeal.main_arg2)) (m (c, Proc.devRef .tc Cert.KernelIdeal.main_arg4)))
      (fun p r s => (Ref.field_eq (StableHlo.launchContents m' c) _ _ p r s).trans (congrArg₂ (fun x M => Ker.placed x M p r s) a2 a4))
      (Ker.left_field_apply m c)
  · exact agree3 _ _ (Ker.placed (m (c, Proc.devRef .tc Cert.KernelIdeal.main_arg3)) (m (c, Proc.devRef .tc Cert.KernelIdeal.main_arg5)))
      (fun p r s => (Ref.field_eq (StableHlo.launchContents m' c) _ _ p r s).trans (congrArg₂ (fun x M => Ker.placed x M p r s) a3 a5))
      (Ker.right_field_apply m c)
  · exact agree2 _ _ (Ker.placedMask (m (c, Proc.devRef .tc Cert.KernelIdeal.main_arg4)))
      (fun r s => (Ref.mask_eq (StableHlo.launchContents m' c) _ r s).trans (congrArg (fun M => Ker.placedMask M r s) a4))
      (Ker.left_mask_apply m c)
  · exact agree2 _ _ (Ker.placedMask (m (c, Proc.devRef .tc Cert.KernelIdeal.main_arg5)))
      (fun r s => (Ref.mask_eq (StableHlo.launchContents m' c) _ r s).trans (congrArg (fun M => Ker.placedMask M r s) a5))
      (Ker.right_mask_apply m c)

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, equal⟩

end Cert.Proof

end
